-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v262) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S8x1024x1024 : Shape := ⟨3, ![8, 1024, 1024]⟩
abbrev S8x2048 : Shape := ⟨2, ![8, 2048]⟩
abbrev S8x1024 : Shape := ⟨2, ![8, 1024]⟩
abbrev S_ : Shape := ⟨0, ![]⟩

class Facts : Prop where
  bcast_S_S8x1024 : S_.BroadcastsInDim S8x1024 (![] : Fin 0 → Fin S8x1024.rank)

variable [Facts]

def fn {F : FTy → Type} [FloatOps F] (main_arg0 : FVec F S8x1024x1024 .f32) (main_arg1 : IVec S8x2048 1) (main_arg2 : FVec F S8x2048 .f32) (main_arg3 : IVec S8x1024 32) : IVec S8x1024 1 :=
  let main_c : IVec S_ 32 := constantI S_ 32 0#32
  let main_v0 : IVec S8x1024 32 := broadcastInDim S8x1024 ![] bcast_S_S8x1024 main_c
  let main_v1 : IVec S8x1024 1 := cmpi .sge main_arg3 main_v0
  let main_c_0 : IVec S_ 32 := constantI S_ 32 2048#32
  let main_v2 : IVec S8x1024 32 := broadcastInDim S8x1024 ![] bcast_S_S8x1024 main_c_0
  let main_v3 : IVec S8x1024 1 := cmpi .slt main_arg3 main_v2
  let main_v4 : IVec S8x1024 1 := andi main_v1 main_v3
  main_v4
-- ==== Kernel.lean ====
abbrev S8x1024x1024 : Shape := ⟨3, ![8, 1024, 1024]⟩
abbrev S8x2048 : Shape := ⟨2, ![8, 2048]⟩
abbrev S8x1024 : Shape := ⟨2, ![8, 1024]⟩
abbrev S8x2048x1 : Shape := ⟨3, ![8, 2048, 1]⟩
abbrev S8x1x2048 : Shape := ⟨3, ![8, 1, 2048]⟩
abbrev S8x1x1024 : Shape := ⟨3, ![8, 1, 1024]⟩
abbrev S8x2048x1024 : Shape := ⟨3, ![8, 2048, 1024]⟩
abbrev S1x256x1 : Shape := ⟨3, ![1, 256, 1]⟩
abbrev S1x1x2048 : Shape := ⟨3, ![1, 1, 2048]⟩
abbrev S1x1x1024 : Shape := ⟨3, ![1, 1, 1024]⟩
abbrev S1x1024x1024 : Shape := ⟨3, ![1, 1024, 1024]⟩
abbrev S1x256x1024 : Shape := ⟨3, ![1, 256, 1024]⟩
abbrev S1024x1024 : Shape := ⟨2, ![1024, 1024]⟩
abbrev S1 : Shape := ⟨1, ![1]⟩
abbrev S1x1024 : Shape := ⟨2, ![1, 1024]⟩
abbrev S1x16x1024 : Shape := ⟨3, ![1, 16, 1024]⟩
abbrev S16x1024 : Shape := ⟨2, ![16, 1024]⟩
abbrev S1x1x1 : Shape := ⟨3, ![1, 1, 1]⟩
abbrev S256x1 : Shape := ⟨2, ![256, 1]⟩
abbrev S1x1 : Shape := ⟨2, ![1, 1]⟩
abbrev S255x1 : Shape := ⟨2, ![255, 1]⟩
abbrev S2x1 : Shape := ⟨2, ![2, 1]⟩
abbrev S254x1 : Shape := ⟨2, ![254, 1]⟩
abbrev S4x1 : Shape := ⟨2, ![4, 1]⟩
abbrev S252x1 : Shape := ⟨2, ![252, 1]⟩
abbrev S8x1 : Shape := ⟨2, ![8, 1]⟩
abbrev S248x1 : Shape := ⟨2, ![248, 1]⟩
abbrev S16x1 : Shape := ⟨2, ![16, 1]⟩
abbrev S240x1 : Shape := ⟨2, ![240, 1]⟩
abbrev S32x1 : Shape := ⟨2, ![32, 1]⟩
abbrev S224x1 : Shape := ⟨2, ![224, 1]⟩
abbrev S64x1 : Shape := ⟨2, ![64, 1]⟩
abbrev S192x1 : Shape := ⟨2, ![192, 1]⟩
abbrev S128x1 : Shape := ⟨2, ![128, 1]⟩
abbrev S256x288 : Shape := ⟨2, ![256, 288]⟩
abbrev S288x1024 : Shape := ⟨2, ![288, 1024]⟩
abbrev S256x1024 : Shape := ⟨2, ![256, 1024]⟩

abbrev nBuf : Space → Nat
  | .hbm => 9
  | .vmem => 7
  | .smem => 5
  | _ => 0

abbrev bufTy : (tb : Table) → Fin (tcTables nBuf tb) → BufTy
  | .hbm, ⟨0, _⟩ => ⟨S8x1024x1024, .f32⟩
  | .hbm, ⟨1, _⟩ => ⟨S8x2048, .i1⟩
  | .hbm, ⟨2, _⟩ => ⟨S8x2048, .f32⟩
  | .hbm, ⟨3, _⟩ => ⟨S8x1024, .i32⟩
  | .hbm, ⟨4, _⟩ => ⟨S8x2048, .i32⟩
  | .hbm, ⟨5, _⟩ => ⟨S8x2048x1, .i32⟩
  | .hbm, ⟨6, _⟩ => ⟨S8x1x2048, .f32⟩
  | .hbm, ⟨7, _⟩ => ⟨S8x1x1024, .i32⟩
  | .hbm, ⟨8, _⟩ => ⟨S8x2048x1024, .f32⟩
  | .local _ .vmem, ⟨0, _⟩ => ⟨S1x256x1, .i32⟩
  | .local _ .vmem, ⟨1, _⟩ => ⟨S1x256x1, .i32⟩
  | .local _ .vmem, ⟨2, _⟩ => ⟨S1x1024x1024, .f32⟩
  | .local _ .vmem, ⟨3, _⟩ => ⟨S1x1024x1024, .f32⟩
  | .local _ .vmem, ⟨4, _⟩ => ⟨S1x256x1024, .f32⟩
  | .local _ .vmem, ⟨5, _⟩ => ⟨S1x256x1024, .f32⟩
  | .local _ .vmem, ⟨6, _⟩ => ⟨S1024x1024, .bf16⟩
  | .local _ .smem, ⟨0, _⟩ => ⟨S1x1x2048, .f32⟩
  | .local _ .smem, ⟨1, _⟩ => ⟨S1x1x2048, .f32⟩
  | .local _ .smem, ⟨2, _⟩ => ⟨S1x1x1024, .i32⟩
  | .local _ .smem, ⟨3, _⟩ => ⟨S1x1x1024, .i32⟩
  | .local _ .smem, ⟨4, _⟩ => ⟨S1, .i32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_stg1_0 : Ref sig .tc := ⟨.smem, 0, rfl⟩
abbrev cc0_stg1_1 : Ref sig .tc := ⟨.smem, 1, rfl⟩
abbrev cc0_stg2_0 : Ref sig .tc := ⟨.smem, 2, rfl⟩
abbrev cc0_stg2_1 : Ref sig .tc := ⟨.smem, 3, rfl⟩
abbrev cc0_scratch1 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_31 : BitVec 32 := 0#32
  let c64_i32 : BitVec 32 := 64#32
  let v90 : BitVec 32 := Scalar.addi c0_i32_31 c64_i32
  let c1_i32_32 : BitVec 32 := 1#32
  ⟨c0_i32_31, v90, c1_i32_32⟩
def k0_mult1 (k0_t1 : Fin k0_t1_loop.trips) : BitVec 32 :=
  let c0_i32_31 : BitVec 32 := 0#32
  let c1_i32_32 : BitVec 32 := 1#32
  let arg9 : BitVec 32 := Scf.iv c0_i32_31 c1_i32_32 k0_t1
  let c16_i32_34 : BitVec 32 := 16#32
  let v92 : BitVec 32 := Scalar.muli arg9 c16_i32_34
  v92
def k0_off1 (k0_t1 : Fin k0_t1_loop.trips) : Fin 3 → Nat :=
  let c0_35 : Index := 0#32
  let c0_i32_31 : BitVec 32 := 0#32
  let c1_i32_32 : BitVec 32 := 1#32
  let arg9 : BitVec 32 := Scf.iv c0_i32_31 c1_i32_32 k0_t1
  let c16_i32_34 : BitVec 32 := 16#32
  let v92 : BitVec 32 := Scalar.muli arg9 c16_i32_34
  let v93 : BitVec 32 := v92
  let v94 : Index := Scalar.indexCast v93
  let c0_36 : Index := 0#32
  ![0, v94.toNat, 0]
def k0_off2 (k0_t1 : Fin k0_t1_loop.trips) : Fin 3 → Nat :=
  let c0_38 : Index := 0#32
  let c0_39 : Index := 0#32
  let c0_i32_31 : BitVec 32 := 0#32
  let c1_i32_32 : BitVec 32 := 1#32
  let arg9 : BitVec 32 := Scf.iv c0_i32_31 c1_i32_32 k0_t1
  let c16_i32_34 : BitVec 32 := 16#32
  let v92 : BitVec 32 := Scalar.muli arg9 c16_i32_34
  let v93 : BitVec 32 := v92
  let c0_i32_37 : BitVec 32 := 0#32
  let v97 : BitVec 32 := Scalar.addi v93 c0_i32_37
  let v98 : Index := Scalar.indexCast v97
  ![0, 0, v98.toNat]
def k0_off3 (v99 : BitVec 32) : Fin 3 → Nat :=
  let c0_40 : Index := 0#32
  let c0_41 : Index := 0#32
  let v100 : Index := Scalar.indexCast v99
  ![0, 0, v100.toNat]

def k0_chk1 (i : grid0.Coords) (v99 : BitVec 32) : Prop :=
  (∀ (k0_h1 : k0_cond1 i = 1#1), ∀ a, (k0_off3 v99) a + S1x1x1.size a ≤ S1x1x2048.size a)
theorem k0_off3_inb : ∀ (i : grid0.Coords) (v99 : BitVec 32) (k0_hw1 : k0_chk1 i v99), ∀ (k0_h1 : k0_cond1 i = 1#1), ∀ a, (k0_off3 v99) a + S1x1x1.size a ≤ S1x1x2048.size a := fun i v99 k0_hw1 k0_h1 => k0_hw1 k0_h1

def k0_off4 (k0_t1 : Fin k0_t1_loop.trips) : Fin 3 → Nat :=
  let c0_47 : Index := 0#32
  let c0_48 : Index := 0#32
  let c0_i32_31 : BitVec 32 := 0#32
  let c1_i32_32 : BitVec 32 := 1#32
  let arg9 : BitVec 32 := Scf.iv c0_i32_31 c1_i32_32 k0_t1
  let c16_i32_34 : BitVec 32 := 16#32
  let v92 : BitVec 32 := Scalar.muli arg9 c16_i32_34
  let v93 : BitVec 32 := v92
  let c1_i32_46 : BitVec 32 := 1#32
  let v113 : BitVec 32 := Scalar.addi v93 c1_i32_46
  let v114 : Index := Scalar.indexCast v113
  ![0, 0, v114.toNat]
def k0_off5 (v115 : BitVec 32) : Fin 3 → Nat :=
  let c0_49 : Index := 0#32
  let c0_50 : Index := 0#32
  let v116 : Index := Scalar.indexCast v115
  ![0, 0, v116.toNat]

def k0_chk2 (i : grid0.Coords) (v115 : BitVec 32) : Prop :=
  (∀ (k0_h1 : k0_cond1 i = 1#1), ∀ a, (k0_off5 v115) a + S1x1x1.size a ≤ S1x1x2048.size a)
theorem k0_off5_inb : ∀ (i : grid0.Coords) (v115 : BitVec 32) (k0_hw2 : k0_chk2 i v115), ∀ (k0_h1 : k0_cond1 i = 1#1), ∀ a, (k0_off5 v115) a + S1x1x1.size a ≤ S1x1x2048.size a := fun i v115 k0_hw2 k0_h1 => k0_hw2 k0_h1

def k0_off6 (k0_t1 : Fin k0_t1_loop.trips) : Fin 3 → Nat :=
  let c0_54 : Index := 0#32
  let c0_55 : Index := 0#32
  let c0_i32_31 : BitVec 32 := 0#32
  let c1_i32_32 : BitVec 32 := 1#32
  let arg9 : BitVec 32 := Scf.iv c0_i32_31 c1_i32_32 k0_t1
  let c16_i32_34 : BitVec 32 := 16#32
  let v92 : BitVec 32 := Scalar.muli arg9 c16_i32_34
  let v93 : BitVec 32 := v92
  let c2_i32 : BitVec 32 := 2#32
  let v127 : BitVec 32 := Scalar.addi v93 c2_i32
  let v128 : Index := Scalar.indexCast v127
  ![0, 0, v128.toNat]
def k0_off7 (v129 : BitVec 32) : Fin 3 → Nat :=
  let c0_56 : Index := 0#32
  let c0_57 : Index := 0#32
  let v130 : Index := Scalar.indexCast v129
  ![0, 0, v130.toNat]

def k0_chk3 (i : grid0.Coords) (v129 : BitVec 32) : Prop :=
  (∀ (k0_h1 : k0_cond1 i = 1#1), ∀ a, (k0_off7 v129) a + S1x1x1.size a ≤ S1x1x2048.size a)
theorem k0_off7_inb : ∀ (i : grid0.Coords) (v129 : BitVec 32) (k0_hw3 : k0_chk3 i v129), ∀ (k0_h1 : k0_cond1 i = 1#1), ∀ a, (k0_off7 v129) a + S1x1x1.size a ≤ S1x1x2048.size a := fun i v129 k0_hw3 k0_h1 => k0_hw3 k0_h1

def k0_off8 (k0_t1 : Fin k0_t1_loop.trips) : Fin 3 → Nat :=
  let c0_61 : Index := 0#32
  let c0_62 : Index := 0#32
  let c0_i32_31 : BitVec 32 := 0#32
  let c1_i32_32 : BitVec 32 := 1#32
  let arg9 : BitVec 32 := Scf.iv c0_i32_31 c1_i32_32 k0_t1
  let c16_i32_34 : BitVec 32 := 16#32
  let v92 : BitVec 32 := Scalar.muli arg9 c16_i32_34
  let v93 : BitVec 32 := v92
  let c3_i32 : BitVec 32 := 3#32
  let v141 : BitVec 32 := Scalar.addi v93 c3_i32
  let v142 : Index := Scalar.indexCast v141
  ![0, 0, v142.toNat]
def k0_off9 (v143 : BitVec 32) : Fin 3 → Nat :=
  let c0_63 : Index := 0#32
  let c0_64 : Index := 0#32
  let v144 : Index := Scalar.indexCast v143
  ![0, 0, v144.toNat]

def k0_chk4 (i : grid0.Coords) (v143 : BitVec 32) : Prop :=
  (∀ (k0_h1 : k0_cond1 i = 1#1), ∀ a, (k0_off9 v143) a + S1x1x1.size a ≤ S1x1x2048.size a)
theorem k0_off9_inb : ∀ (i : grid0.Coords) (v143 : BitVec 32) (k0_hw4 : k0_chk4 i v143), ∀ (k0_h1 : k0_cond1 i = 1#1), ∀ a, (k0_off9 v143) a + S1x1x1.size a ≤ S1x1x2048.size a := fun i v143 k0_hw4 k0_h1 => k0_hw4 k0_h1

def k0_off10 (k0_t1 : Fin k0_t1_loop.trips) : Fin 3 → Nat :=
  let c0_68 : Index := 0#32
  let c0_69 : Index := 0#32
  let c0_i32_31 : BitVec 32 := 0#32
  let c1_i32_32 : BitVec 32 := 1#32
  let arg9 : BitVec 32 := Scf.iv c0_i32_31 c1_i32_32 k0_t1
  let c16_i32_34 : BitVec 32 := 16#32
  let v92 : BitVec 32 := Scalar.muli arg9 c16_i32_34
  let v93 : BitVec 32 := v92
  let c4_i32 : BitVec 32 := 4#32
  let v155 : BitVec 32 := Scalar.addi v93 c4_i32
  let v156 : Index := Scalar.indexCast v155
  ![0, 0, v156.toNat]
def k0_off11 (v157 : BitVec 32) : Fin 3 → Nat :=
  let c0_70 : Index := 0#32
  let c0_71 : Index := 0#32
  let v158 : Index := Scalar.indexCast v157
  ![0, 0, v158.toNat]

def k0_chk5 (i : grid0.Coords) (v157 : BitVec 32) : Prop :=
  (∀ (k0_h1 : k0_cond1 i = 1#1), ∀ a, (k0_off11 v157) a + S1x1x1.size a ≤ S1x1x2048.size a)
theorem k0_off11_inb : ∀ (i : grid0.Coords) (v157 : BitVec 32) (k0_hw5 : k0_chk5 i v157), ∀ (k0_h1 : k0_cond1 i = 1#1), ∀ a, (k0_off11 v157) a + S1x1x1.size a ≤ S1x1x2048.size a := fun i v157 k0_hw5 k0_h1 => k0_hw5 k0_h1

def k0_off12 (k0_t1 : Fin k0_t1_loop.trips) : Fin 3 → Nat :=
  let c0_75 : Index := 0#32
  let c0_76 : Index := 0#32
  let c0_i32_31 : BitVec 32 := 0#32
  let c1_i32_32 : BitVec 32 := 1#32
  let arg9 : BitVec 32 := Scf.iv c0_i32_31 c1_i32_32 k0_t1
  let c16_i32_34 : BitVec 32 := 16#32
  let v92 : BitVec 32 := Scalar.muli arg9 c16_i32_34
  let v93 : BitVec 32 := v92
  let c5_i32 : BitVec 32 := 5#32
  let v169 : BitVec 32 := Scalar.addi v93 c5_i32
  let v170 : Index := Scalar.indexCast v169
  ![0, 0, v170.toNat]
def k0_off13 (v171 : BitVec 32) : Fin 3 → Nat :=
  let c0_77 : Index := 0#32
  let c0_78 : Index := 0#32
  let v172 : Index := Scalar.indexCast v171
  ![0, 0, v172.toNat]

def k0_chk6 (i : grid0.Coords) (v171 : BitVec 32) : Prop :=
  (∀ (k0_h1 : k0_cond1 i = 1#1), ∀ a, (k0_off13 v171) a + S1x1x1.size a ≤ S1x1x2048.size a)
theorem k0_off13_inb : ∀ (i : grid0.Coords) (v171 : BitVec 32) (k0_hw6 : k0_chk6 i v171), ∀ (k0_h1 : k0_cond1 i = 1#1), ∀ a, (k0_off13 v171) a + S1x1x1.size a ≤ S1x1x2048.size a := fun i v171 k0_hw6 k0_h1 => k0_hw6 k0_h1

def k0_off14 (k0_t1 : Fin k0_t1_loop.trips) : Fin 3 → Nat :=
  let c0_82 : Index := 0#32
  let c0_83 : Index := 0#32
  let c0_i32_31 : BitVec 32 := 0#32
  let c1_i32_32 : BitVec 32 := 1#32
  let arg9 : BitVec 32 := Scf.iv c0_i32_31 c1_i32_32 k0_t1
  let c16_i32_34 : BitVec 32 := 16#32
  let v92 : BitVec 32 := Scalar.muli arg9 c16_i32_34
  let v93 : BitVec 32 := v92
  let c6_i32 : BitVec 32 := 6#32
  let v183 : BitVec 32 := Scalar.addi v93 c6_i32
  let v184 : Index := Scalar.indexCast v183
  ![0, 0, v184.toNat]
def k0_off15 (v185 : BitVec 32) : Fin 3 → Nat :=
  let c0_84 : Index := 0#32
  let c0_85 : Index := 0#32
  let v186 : Index := Scalar.indexCast v185
  ![0, 0, v186.toNat]

def k0_chk7 (i : grid0.Coords) (v185 : BitVec 32) : Prop :=
  (∀ (k0_h1 : k0_cond1 i = 1#1), ∀ a, (k0_off15 v185) a + S1x1x1.size a ≤ S1x1x2048.size a)
theorem k0_off15_inb : ∀ (i : grid0.Coords) (v185 : BitVec 32) (k0_hw7 : k0_chk7 i v185), ∀ (k0_h1 : k0_cond1 i = 1#1), ∀ a, (k0_off15 v185) a + S1x1x1.size a ≤ S1x1x2048.size a := fun i v185 k0_hw7 k0_h1 => k0_hw7 k0_h1

def k0_off16 (k0_t1 : Fin k0_t1_loop.trips) : Fin 3 → Nat :=
  let c0_89 : Index := 0#32
  let c0_90 : Index := 0#32
  let c0_i32_31 : BitVec 32 := 0#32
  let c1_i32_32 : BitVec 32 := 1#32
  let arg9 : BitVec 32 := Scf.iv c0_i32_31 c1_i32_32 k0_t1
  let c16_i32_34 : BitVec 32 := 16#32
  let v92 : BitVec 32 := Scalar.muli arg9 c16_i32_34
  let v93 : BitVec 32 := v92
  let c7_i32 : BitVec 32 := 7#32
  let v197 : BitVec 32 := Scalar.addi v93 c7_i32
  let v198 : Index := Scalar.indexCast v197
  ![0, 0, v198.toNat]
def k0_off17 (v199 : BitVec 32) : Fin 3 → Nat :=
  let c0_91 : Index := 0#32
  let c0_92 : Index := 0#32
  let v200 : Index := Scalar.indexCast v199
  ![0, 0, v200.toNat]

def k0_chk8 (i : grid0.Coords) (v199 : BitVec 32) : Prop :=
  (∀ (k0_h1 : k0_cond1 i = 1#1), ∀ a, (k0_off17 v199) a + S1x1x1.size a ≤ S1x1x2048.size a)
theorem k0_off17_inb : ∀ (i : grid0.Coords) (v199 : BitVec 32) (k0_hw8 : k0_chk8 i v199), ∀ (k0_h1 : k0_cond1 i = 1#1), ∀ a, (k0_off17 v199) a + S1x1x1.size a ≤ S1x1x2048.size a := fun i v199 k0_hw8 k0_h1 => k0_hw8 k0_h1

def k0_off18 (k0_t1 : Fin k0_t1_loop.trips) : Fin 3 → Nat :=
  let c0_96 : Index := 0#32
  let c0_97 : Index := 0#32
  let c0_i32_31 : BitVec 32 := 0#32
  let c1_i32_32 : BitVec 32 := 1#32
  let arg9 : BitVec 32 := Scf.iv c0_i32_31 c1_i32_32 k0_t1
  let c16_i32_34 : BitVec 32 := 16#32
  let v92 : BitVec 32 := Scalar.muli arg9 c16_i32_34
  let v93 : BitVec 32 := v92
  let c8_i32 : BitVec 32 := 8#32
  let v211 : BitVec 32 := Scalar.addi v93 c8_i32
  let v212 : Index := Scalar.indexCast v211
  ![0, 0, v212.toNat]
def k0_off19 (v213 : BitVec 32) : Fin 3 → Nat :=
  let c0_98 : Index := 0#32
  let c0_99 : Index := 0#32
  let v214 : Index := Scalar.indexCast v213
  ![0, 0, v214.toNat]

def k0_chk9 (i : grid0.Coords) (v213 : BitVec 32) : Prop :=
  (∀ (k0_h1 : k0_cond1 i = 1#1), ∀ a, (k0_off19 v213) a + S1x1x1.size a ≤ S1x1x2048.size a)
theorem k0_off19_inb : ∀ (i : grid0.Coords) (v213 : BitVec 32) (k0_hw9 : k0_chk9 i v213), ∀ (k0_h1 : k0_cond1 i = 1#1), ∀ a, (k0_off19 v213) a + S1x1x1.size a ≤ S1x1x2048.size a := fun i v213 k0_hw9 k0_h1 => k0_hw9 k0_h1

def k0_off20 (k0_t1 : Fin k0_t1_loop.trips) : Fin 3 → Nat :=
  let c0_103 : Index := 0#32
  let c0_104 : Index := 0#32
  let c0_i32_31 : BitVec 32 := 0#32
  let c1_i32_32 : BitVec 32 := 1#32
  let arg9 : BitVec 32 := Scf.iv c0_i32_31 c1_i32_32 k0_t1
  let c16_i32_34 : BitVec 32 := 16#32
  let v92 : BitVec 32 := Scalar.muli arg9 c16_i32_34
  let v93 : BitVec 32 := v92
  let c9_i32 : BitVec 32 := 9#32
  let v225 : BitVec 32 := Scalar.addi v93 c9_i32
  let v226 : Index := Scalar.indexCast v225
  ![0, 0, v226.toNat]
def k0_off21 (v227 : BitVec 32) : Fin 3 → Nat :=
  let c0_105 : Index := 0#32
  let c0_106 : Index := 0#32
  let v228 : Index := Scalar.indexCast v227
  ![0, 0, v228.toNat]

def k0_chk10 (i : grid0.Coords) (v227 : BitVec 32) : Prop :=
  (∀ (k0_h1 : k0_cond1 i = 1#1), ∀ a, (k0_off21 v227) a + S1x1x1.size a ≤ S1x1x2048.size a)
theorem k0_off21_inb : ∀ (i : grid0.Coords) (v227 : BitVec 32) (k0_hw10 : k0_chk10 i v227), ∀ (k0_h1 : k0_cond1 i = 1#1), ∀ a, (k0_off21 v227) a + S1x1x1.size a ≤ S1x1x2048.size a := fun i v227 k0_hw10 k0_h1 => k0_hw10 k0_h1

def k0_off22 (k0_t1 : Fin k0_t1_loop.trips) : Fin 3 → Nat :=
  let c0_110 : Index := 0#32
  let c0_111 : Index := 0#32
  let c0_i32_31 : BitVec 32 := 0#32
  let c1_i32_32 : BitVec 32 := 1#32
  let arg9 : BitVec 32 := Scf.iv c0_i32_31 c1_i32_32 k0_t1
  let c16_i32_34 : BitVec 32 := 16#32
  let v92 : BitVec 32 := Scalar.muli arg9 c16_i32_34
  let v93 : BitVec 32 := v92
  let c10_i32 : BitVec 32 := 10#32
  let v239 : BitVec 32 := Scalar.addi v93 c10_i32
  let v240 : Index := Scalar.indexCast v239
  ![0, 0, v240.toNat]
def k0_off23 (v241 : BitVec 32) : Fin 3 → Nat :=
  let c0_112 : Index := 0#32
  let c0_113 : Index := 0#32
  let v242 : Index := Scalar.indexCast v241
  ![0, 0, v242.toNat]

def k0_chk11 (i : grid0.Coords) (v241 : BitVec 32) : Prop :=
  (∀ (k0_h1 : k0_cond1 i = 1#1), ∀ a, (k0_off23 v241) a + S1x1x1.size a ≤ S1x1x2048.size a)
theorem k0_off23_inb : ∀ (i : grid0.Coords) (v241 : BitVec 32) (k0_hw11 : k0_chk11 i v241), ∀ (k0_h1 : k0_cond1 i = 1#1), ∀ a, (k0_off23 v241) a + S1x1x1.size a ≤ S1x1x2048.size a := fun i v241 k0_hw11 k0_h1 => k0_hw11 k0_h1

def k0_off24 (k0_t1 : Fin k0_t1_loop.trips) : Fin 3 → Nat :=
  let c0_117 : Index := 0#32
  let c0_118 : Index := 0#32
  let c0_i32_31 : BitVec 32 := 0#32
  let c1_i32_32 : BitVec 32 := 1#32
  let arg9 : BitVec 32 := Scf.iv c0_i32_31 c1_i32_32 k0_t1
  let c16_i32_34 : BitVec 32 := 16#32
  let v92 : BitVec 32 := Scalar.muli arg9 c16_i32_34
  let v93 : BitVec 32 := v92
  let c11_i32 : BitVec 32 := 11#32
  let v253 : BitVec 32 := Scalar.addi v93 c11_i32
  let v254 : Index := Scalar.indexCast v253
  ![0, 0, v254.toNat]
def k0_off25 (v255 : BitVec 32) : Fin 3 → Nat :=
  let c0_119 : Index := 0#32
  let c0_120 : Index := 0#32
  let v256 : Index := Scalar.indexCast v255
  ![0, 0, v256.toNat]

def k0_chk12 (i : grid0.Coords) (v255 : BitVec 32) : Prop :=
  (∀ (k0_h1 : k0_cond1 i = 1#1), ∀ a, (k0_off25 v255) a + S1x1x1.size a ≤ S1x1x2048.size a)
theorem k0_off25_inb : ∀ (i : grid0.Coords) (v255 : BitVec 32) (k0_hw12 : k0_chk12 i v255), ∀ (k0_h1 : k0_cond1 i = 1#1), ∀ a, (k0_off25 v255) a + S1x1x1.size a ≤ S1x1x2048.size a := fun i v255 k0_hw12 k0_h1 => k0_hw12 k0_h1

def k0_off26 (k0_t1 : Fin k0_t1_loop.trips) : Fin 3 → Nat :=
  let c0_124 : Index := 0#32
  let c0_125 : Index := 0#32
  let c0_i32_31 : BitVec 32 := 0#32
  let c1_i32_32 : BitVec 32 := 1#32
  let arg9 : BitVec 32 := Scf.iv c0_i32_31 c1_i32_32 k0_t1
  let c16_i32_34 : BitVec 32 := 16#32
  let v92 : BitVec 32 := Scalar.muli arg9 c16_i32_34
  let v93 : BitVec 32 := v92
  let c12_i32 : BitVec 32 := 12#32
  let v267 : BitVec 32 := Scalar.addi v93 c12_i32
  let v268 : Index := Scalar.indexCast v267
  ![0, 0, v268.toNat]
def k0_off27 (v269 : BitVec 32) : Fin 3 → Nat :=
  let c0_126 : Index := 0#32
  let c0_127 : Index := 0#32
  let v270 : Index := Scalar.indexCast v269
  ![0, 0, v270.toNat]

def k0_chk13 (i : grid0.Coords) (v269 : BitVec 32) : Prop :=
  (∀ (k0_h1 : k0_cond1 i = 1#1), ∀ a, (k0_off27 v269) a + S1x1x1.size a ≤ S1x1x2048.size a)
theorem k0_off27_inb : ∀ (i : grid0.Coords) (v269 : BitVec 32) (k0_hw13 : k0_chk13 i v269), ∀ (k0_h1 : k0_cond1 i = 1#1), ∀ a, (k0_off27 v269) a + S1x1x1.size a ≤ S1x1x2048.size a := fun i v269 k0_hw13 k0_h1 => k0_hw13 k0_h1

def k0_off28 (k0_t1 : Fin k0_t1_loop.trips) : Fin 3 → Nat :=
  let c0_131 : Index := 0#32
  let c0_132 : Index := 0#32
  let c0_i32_31 : BitVec 32 := 0#32
  let c1_i32_32 : BitVec 32 := 1#32
  let arg9 : BitVec 32 := Scf.iv c0_i32_31 c1_i32_32 k0_t1
  let c16_i32_34 : BitVec 32 := 16#32
  let v92 : BitVec 32 := Scalar.muli arg9 c16_i32_34
  let v93 : BitVec 32 := v92
  let c13_i32 : BitVec 32 := 13#32
  let v281 : BitVec 32 := Scalar.addi v93 c13_i32
  let v282 : Index := Scalar.indexCast v281
  ![0, 0, v282.toNat]
def k0_off29 (v283 : BitVec 32) : Fin 3 → Nat :=
  let c0_133 : Index := 0#32
  let c0_134 : Index := 0#32
  let v284 : Index := Scalar.indexCast v283
  ![0, 0, v284.toNat]

def k0_chk14 (i : grid0.Coords) (v283 : BitVec 32) : Prop :=
  (∀ (k0_h1 : k0_cond1 i = 1#1), ∀ a, (k0_off29 v283) a + S1x1x1.size a ≤ S1x1x2048.size a)
theorem k0_off29_inb : ∀ (i : grid0.Coords) (v283 : BitVec 32) (k0_hw14 : k0_chk14 i v283), ∀ (k0_h1 : k0_cond1 i = 1#1), ∀ a, (k0_off29 v283) a + S1x1x1.size a ≤ S1x1x2048.size a := fun i v283 k0_hw14 k0_h1 => k0_hw14 k0_h1

def k0_off30 (k0_t1 : Fin k0_t1_loop.trips) : Fin 3 → Nat :=
  let c0_138 : Index := 0#32
  let c0_139 : Index := 0#32
  let c0_i32_31 : BitVec 32 := 0#32
  let c1_i32_32 : BitVec 32 := 1#32
  let arg9 : BitVec 32 := Scf.iv c0_i32_31 c1_i32_32 k0_t1
  let c16_i32_34 : BitVec 32 := 16#32
  let v92 : BitVec 32 := Scalar.muli arg9 c16_i32_34
  let v93 : BitVec 32 := v92
  let c14_i32 : BitVec 32 := 14#32
  let v295 : BitVec 32 := Scalar.addi v93 c14_i32
  let v296 : Index := Scalar.indexCast v295
  ![0, 0, v296.toNat]
def k0_off31 (v297 : BitVec 32) : Fin 3 → Nat :=
  let c0_140 : Index := 0#32
  let c0_141 : Index := 0#32
  let v298 : Index := Scalar.indexCast v297
  ![0, 0, v298.toNat]

def k0_chk15 (i : grid0.Coords) (v297 : BitVec 32) : Prop :=
  (∀ (k0_h1 : k0_cond1 i = 1#1), ∀ a, (k0_off31 v297) a + S1x1x1.size a ≤ S1x1x2048.size a)
theorem k0_off31_inb : ∀ (i : grid0.Coords) (v297 : BitVec 32) (k0_hw15 : k0_chk15 i v297), ∀ (k0_h1 : k0_cond1 i = 1#1), ∀ a, (k0_off31 v297) a + S1x1x1.size a ≤ S1x1x2048.size a := fun i v297 k0_hw15 k0_h1 => k0_hw15 k0_h1

def k0_off32 (k0_t1 : Fin k0_t1_loop.trips) : Fin 3 → Nat :=
  let c0_145 : Index := 0#32
  let c0_146 : Index := 0#32
  let c0_i32_31 : BitVec 32 := 0#32
  let c1_i32_32 : BitVec 32 := 1#32
  let arg9 : BitVec 32 := Scf.iv c0_i32_31 c1_i32_32 k0_t1
  let c16_i32_34 : BitVec 32 := 16#32
  let v92 : BitVec 32 := Scalar.muli arg9 c16_i32_34
  let v93 : BitVec 32 := v92
  let c15_i32 : BitVec 32 := 15#32
  let v309 : BitVec 32 := Scalar.addi v93 c15_i32
  let v310 : Index := Scalar.indexCast v309
  ![0, 0, v310.toNat]
def k0_off33 (v311 : BitVec 32) : Fin 3 → Nat :=
  let c0_147 : Index := 0#32
  let c0_148 : Index := 0#32
  let v312 : Index := Scalar.indexCast v311
  ![0, 0, v312.toNat]

def k0_chk16 (i : grid0.Coords) (v311 : BitVec 32) : Prop :=
  (∀ (k0_h1 : k0_cond1 i = 1#1), ∀ a, (k0_off33 v311) a + S1x1x1.size a ≤ S1x1x2048.size a)
theorem k0_off33_inb : ∀ (i : grid0.Coords) (v311 : BitVec 32) (k0_hw16 : k0_chk16 i v311), ∀ (k0_h1 : k0_cond1 i = 1#1), ∀ a, (k0_off33 v311) a + S1x1x1.size a ≤ S1x1x2048.size a := fun i v311 k0_hw16 k0_h1 => k0_hw16 k0_h1

def k0_off34 (k0_t1 : Fin k0_t1_loop.trips) : Fin 2 → Nat :=
  let c0_i32_31 : BitVec 32 := 0#32
  let c1_i32_32 : BitVec 32 := 1#32
  let arg9 : BitVec 32 := Scf.iv c0_i32_31 c1_i32_32 k0_t1
  let c16_i32_34 : BitVec 32 := 16#32
  let v92 : BitVec 32 := Scalar.muli arg9 c16_i32_34
  let v93 : BitVec 32 := v92
  let v325 : Index := Scalar.indexCast v93
  let c0_152 : Index := 0#32
  ![v325.toNat, 0]
def k0_mult2 (v3 : BitVec 32) : BitVec 32 :=
  let c736_i32 : BitVec 32 := 736#32
  let c0_i32_21 : BitVec 32 := 0#32
  let c1_i32_13 : BitVec 32 := 1#32
  let v46 : BitVec 32 := Scalar.subi v3 c1_i32_13
  let c0_i32_14 : BitVec 32 := 0#32
  let v48 : BitVec 1 := Scalar.cmpi .sgt v46 c0_i32_14
  let v49 : BitVec 32 := Scalar.extui v48
  let c0_i32_15 : BitVec 32 := 0#32
  let v50 : BitVec 1 := Scalar.cmpi .slt v46 c0_i32_15
  let v51 : BitVec 32 := Scalar.extui v50
  let v52 : BitVec 32 := Scalar.subi v49 v51
  let c16_i32 : BitVec 32 := 16#32
  let c0_i32_16 : BitVec 32 := 0#32
  let v53 : BitVec 1 := Scalar.cmpi .sgt c16_i32 c0_i32_16
  let v54 : BitVec 32 := Scalar.extui v53
  let c0_i32_17 : BitVec 32 := 0#32
  let v55 : BitVec 1 := Scalar.cmpi .slt c16_i32 c0_i32_17
  let v56 : BitVec 32 := Scalar.extui v55
  let v57 : BitVec 32 := Scalar.subi v54 v56
  let v58 : BitVec 1 := Scalar.cmpi .ne v52 v57
  let v59 : BitVec 32 := Scalar.remsi v46 c16_i32
  let c0_i32_18 : BitVec 32 := 0#32
  let v60 : BitVec 1 := Scalar.cmpi .ne v59 c0_i32_18
  let v61 : BitVec 1 := Scalar.andi v58 v60
  let v47 : BitVec 32 := Scalar.divsi v46 c16_i32
  let c1_i32_19 : BitVec 32 := 1#32
  let v62 : BitVec 32 := Scalar.subi v47 c1_i32_19
  let v63 : BitVec 32 := Scalar.select v61 v62 v47
  let c16_i32_20 : BitVec 32 := 16#32
  let v64 : BitVec 32 := Scalar.muli v63 c16_i32_20
  let v65 : BitVec 32 := Scalar.maxsi c0_i32_21 v64
  let v66 : BitVec 32 := Scalar.minsi c736_i32 v65
  v66

def k0_off35 (v3 : BitVec 32) : Fin 2 → Nat :=
  let c736_i32 : BitVec 32 := 736#32
  let c0_i32_21 : BitVec 32 := 0#32
  let c1_i32_13 : BitVec 32 := 1#32
  let v46 : BitVec 32 := Scalar.subi v3 c1_i32_13
  let c0_i32_14 : BitVec 32 := 0#32
  let v48 : BitVec 1 := Scalar.cmpi .sgt v46 c0_i32_14
  let v49 : BitVec 32 := Scalar.extui v48
  let c0_i32_15 : BitVec 32 := 0#32
  let v50 : BitVec 1 := Scalar.cmpi .slt v46 c0_i32_15
  let v51 : BitVec 32 := Scalar.extui v50
  let v52 : BitVec 32 := Scalar.subi v49 v51
  let c16_i32 : BitVec 32 := 16#32
  let c0_i32_16 : BitVec 32 := 0#32
  let v53 : BitVec 1 := Scalar.cmpi .sgt c16_i32 c0_i32_16
  let v54 : BitVec 32 := Scalar.extui v53
  let c0_i32_17 : BitVec 32 := 0#32
  let v55 : BitVec 1 := Scalar.cmpi .slt c16_i32 c0_i32_17
  let v56 : BitVec 32 := Scalar.extui v55
  let v57 : BitVec 32 := Scalar.subi v54 v56
  let v58 : BitVec 1 := Scalar.cmpi .ne v52 v57
  let v59 : BitVec 32 := Scalar.remsi v46 c16_i32
  let c0_i32_18 : BitVec 32 := 0#32
  let v60 : BitVec 1 := Scalar.cmpi .ne v59 c0_i32_18
  let v61 : BitVec 1 := Scalar.andi v58 v60
  let v47 : BitVec 32 := Scalar.divsi v46 c16_i32
  let c1_i32_19 : BitVec 32 := 1#32
  let v62 : BitVec 32 := Scalar.subi v47 c1_i32_19
  let v63 : BitVec 32 := Scalar.select v61 v62 v47
  let c16_i32_20 : BitVec 32 := 16#32
  let v64 : BitVec 32 := Scalar.muli v63 c16_i32_20
  let v65 : BitVec 32 := Scalar.maxsi c0_i32_21 v64
  let v66 : BitVec 32 := Scalar.minsi c736_i32 v65
  let v67 : BitVec 32 := v66
  let v76 : Index := Scalar.indexCast v67
  let c0_22 : Index := 0#32
  ![v76.toNat, 0]

def k0_chk17 (v3 : BitVec 32) : Prop :=
  (16 ∣ (k0_mult2 v3).toNat) ∧
  (∀ a, (k0_off35 v3) a + S288x1024.size a ≤ S1024x1024.size a)
theorem k0_mult2_dvd : ∀ (v3 : BitVec 32) (k0_hw17 : k0_chk17 v3), 16 ∣ (k0_mult2 v3).toNat := fun v3 k0_hw17 => k0_hw17.1
theorem k0_off35_inb : ∀ (v3 : BitVec 32) (k0_hw17 : k0_chk17 v3), ∀ a, (k0_off35 v3) a + S288x1024.size a ≤ S1024x1024.size a := fun v3 k0_hw17 => k0_hw17.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .smem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .smem S1x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x1024x1024 : Shape := ⟨3, ![8, 1024, 1024]⟩
abbrev S8x2048 : Shape := ⟨2, ![8, 2048]⟩
abbrev S8x1024 : Shape := ⟨2, ![8, 1024]⟩
abbrev S_ : Shape := ⟨0, ![]⟩
abbrev S8x1024x1 : Shape := ⟨3, ![8, 1024, 1]⟩
abbrev S1 : Shape := ⟨1, ![1]⟩
abbrev S1x1x1 : Shape := ⟨3, ![1, 1, 1]⟩
abbrev S8x1x1024 : Shape := ⟨3, ![8, 1, 1024]⟩
abbrev S8x512x1024 : Shape := ⟨3, ![8, 512, 1024]⟩
abbrev S8x256x1024 : Shape := ⟨3, ![8, 256, 1024]⟩
abbrev S8x128x1024 : Shape := ⟨3, ![8, 128, 1024]⟩
abbrev S8x64x1024 : Shape := ⟨3, ![8, 64, 1024]⟩
abbrev S8x32x1024 : Shape := ⟨3, ![8, 32, 1024]⟩
abbrev S8x16x1024 : Shape := ⟨3, ![8, 16, 1024]⟩
abbrev S8x8x1024 : Shape := ⟨3, ![8, 8, 1024]⟩
abbrev S8x4x1024 : Shape := ⟨3, ![8, 4, 1024]⟩
abbrev S8x2x1024 : Shape := ⟨3, ![8, 2, 1024]⟩
abbrev S8x0x1024 : Shape := ⟨3, ![8, 0, 1024]⟩
abbrev S8x3x1024 : Shape := ⟨3, ![8, 3, 1024]⟩
abbrev S8x7x1024 : Shape := ⟨3, ![8, 7, 1024]⟩
abbrev S8x15x1024 : Shape := ⟨3, ![8, 15, 1024]⟩
abbrev S8x31x1024 : Shape := ⟨3, ![8, 31, 1024]⟩
abbrev S8x63x1024 : Shape := ⟨3, ![8, 63, 1024]⟩
abbrev S8x127x1024 : Shape := ⟨3, ![8, 127, 1024]⟩
abbrev S8x255x1024 : Shape := ⟨3, ![8, 255, 1024]⟩
abbrev S8x511x1024 : Shape := ⟨3, ![8, 511, 1024]⟩
abbrev S8x2048x1 : Shape := ⟨3, ![8, 2048, 1]⟩
abbrev S8x2048x1024 : Shape := ⟨3, ![8, 2048, 1024]⟩

abbrev nBuf : Space → Nat
  | .hbm => 370
  | .vmem => 0
  | .smem => 0
  | _ => 0

abbrev hbmTy0_0 (i : Nat) : BufTy := match i % 128 with
  | 0 => ⟨S8x1024x1024, .f32⟩
  | 1 => ⟨S8x2048, .i1⟩
  | 2 => ⟨S8x2048, .f32⟩
  | 3 => ⟨S8x1024, .i32⟩
  | 4 => ⟨S_, .i32⟩
  | 5 => ⟨S8x1024, .i32⟩
  | 6 => ⟨S8x1024, .i1⟩
  | 7 => ⟨S_, .i32⟩
  | 8 => ⟨S8x1024, .i32⟩
  | 9 => ⟨S8x1024, .i32⟩
  | 10 => ⟨S8x1024, .i32⟩
  | 11 => ⟨S8x1024x1, .i32⟩
  | 12 => ⟨S1, .i32⟩
  | 13 => ⟨S_, .i32⟩
  | 14 => ⟨S8x1024x1, .i32⟩
  | 15 => ⟨S8x1024x1, .i1⟩
  | 16 => ⟨S1x1x1, .i32⟩
  | 17 => ⟨S8x1024x1, .i32⟩
  | 18 => ⟨S8x1024x1, .i1⟩
  | 19 => ⟨S8x1024x1, .i1⟩
  | 20 => ⟨S_, .i1⟩
  | 21 => ⟨S8x1024, .i1⟩
  | 22 => ⟨S8x1024, .f32⟩
  | 23 => ⟨S_, .f32⟩
  | 24 => ⟨S8x1024, .f32⟩
  | 25 => ⟨S8x1024, .f32⟩
  | 26 => ⟨S_, .f32⟩
  | 27 => ⟨S_, .f32⟩
  | 28 => ⟨S_, .f32⟩
  | 29 => ⟨S8x1024, .f32⟩
  | 30 => ⟨S8x1024, .f32⟩
  | 31 => ⟨S_, .f32⟩
  | 32 => ⟨S8x1024, .f32⟩
  | 33 => ⟨S8x1024, .f32⟩
  | 34 => ⟨S_, .f32⟩
  | 35 => ⟨S8x1024, .f32⟩
  | 36 => ⟨S8x1024, .f32⟩
  | 37 => ⟨S8x1024x1, .f32⟩
  | 38 => ⟨S8x1024x1024, .f32⟩
  | 39 => ⟨S8x1024x1, .f32⟩
  | 40 => ⟨S8x1024x1024, .f32⟩
  | 41 => ⟨S8x1024x1024, .f32⟩
  | 42 => ⟨S_, .i32⟩
  | 43 => ⟨S1, .i32⟩
  | 44 => ⟨S_, .f32⟩
  | 45 => ⟨S8x1024, .f32⟩
  | 46 => ⟨S8x1024x1024, .f32⟩
  | 47 => ⟨S8x1x1024, .f32⟩
  | 48 => ⟨S8x1024, .f32⟩
  | 49 => ⟨S_, .i32⟩
  | 50 => ⟨S1, .i32⟩
  | 51 => ⟨S8x1024x1024, .f32⟩
  | 52 => ⟨S8x512x1024, .f32⟩
  | 53 => ⟨S8x512x1024, .f32⟩
  | 54 => ⟨S8x512x1024, .f32⟩
  | 55 => ⟨S8x512x1024, .f32⟩
  | 56 => ⟨S8x512x1024, .f32⟩
  | 57 => ⟨S8x512x1024, .f32⟩
  | 58 => ⟨S8x512x1024, .f32⟩
  | 59 => ⟨S8x256x1024, .f32⟩
  | 60 => ⟨S8x256x1024, .f32⟩
  | 61 => ⟨S8x256x1024, .f32⟩
  | 62 => ⟨S8x256x1024, .f32⟩
  | 63 => ⟨S8x256x1024, .f32⟩
  | 64 => ⟨S8x256x1024, .f32⟩
  | 65 => ⟨S8x256x1024, .f32⟩
  | 66 => ⟨S8x128x1024, .f32⟩
  | 67 => ⟨S8x128x1024, .f32⟩
  | 68 => ⟨S8x128x1024, .f32⟩
  | 69 => ⟨S8x128x1024, .f32⟩
  | 70 => ⟨S8x128x1024, .f32⟩
  | 71 => ⟨S8x128x1024, .f32⟩
  | 72 => ⟨S8x128x1024, .f32⟩
  | 73 => ⟨S8x64x1024, .f32⟩
  | 74 => ⟨S8x64x1024, .f32⟩
  | 75 => ⟨S8x64x1024, .f32⟩
  | 76 => ⟨S8x64x1024, .f32⟩
  | 77 => ⟨S8x64x1024, .f32⟩
  | 78 => ⟨S8x64x1024, .f32⟩
  | 79 => ⟨S8x64x1024, .f32⟩
  | 80 => ⟨S8x32x1024, .f32⟩
  | 81 => ⟨S8x32x1024, .f32⟩
  | 82 => ⟨S8x32x1024, .f32⟩
  | 83 => ⟨S8x32x1024, .f32⟩
  | 84 => ⟨S8x32x1024, .f32⟩
  | 85 => ⟨S8x32x1024, .f32⟩
  | 86 => ⟨S8x32x1024, .f32⟩
  | 87 => ⟨S8x16x1024, .f32⟩
  | 88 => ⟨S8x16x1024, .f32⟩
  | 89 => ⟨S8x16x1024, .f32⟩
  | 90 => ⟨S8x16x1024, .f32⟩
  | 91 => ⟨S8x16x1024, .f32⟩
  | 92 => ⟨S8x16x1024, .f32⟩
  | 93 => ⟨S8x16x1024, .f32⟩
  | 94 => ⟨S8x8x1024, .f32⟩
  | 95 => ⟨S8x8x1024, .f32⟩
  | 96 => ⟨S8x8x1024, .f32⟩
  | 97 => ⟨S8x8x1024, .f32⟩
  | 98 => ⟨S8x8x1024, .f32⟩
  | 99 => ⟨S8x8x1024, .f32⟩
  | 100 => ⟨S8x8x1024, .f32⟩
  | 101 => ⟨S8x4x1024, .f32⟩
  | 102 => ⟨S8x4x1024, .f32⟩
  | 103 => ⟨S8x4x1024, .f32⟩
  | 104 => ⟨S8x4x1024, .f32⟩
  | 105 => ⟨S8x4x1024, .f32⟩
  | 106 => ⟨S8x4x1024, .f32⟩
  | 107 => ⟨S8x4x1024, .f32⟩
  | 108 => ⟨S8x2x1024, .f32⟩
  | 109 => ⟨S8x2x1024, .f32⟩
  | 110 => ⟨S8x2x1024, .f32⟩
  | 111 => ⟨S8x2x1024, .f32⟩
  | 112 => ⟨S8x2x1024, .f32⟩
  | 113 => ⟨S8x2x1024, .f32⟩
  | 114 => ⟨S8x2x1024, .f32⟩
  | 115 => ⟨S8x1x1024, .f32⟩
  | 116 => ⟨S8x1x1024, .f32⟩
  | 117 => ⟨S8x1x1024, .f32⟩
  | 118 => ⟨S8x1x1024, .f32⟩
  | 119 => ⟨S8x1x1024, .f32⟩
  | 120 => ⟨S8x1x1024, .f32⟩
  | 121 => ⟨S8x1x1024, .f32⟩
  | 122 => ⟨S8x0x1024, .f32⟩
  | 123 => ⟨S8x0x1024, .f32⟩
  | 124 => ⟨S8x0x1024, .f32⟩
  | 125 => ⟨S8x0x1024, .f32⟩
  | 126 => ⟨S8x0x1024, .f32⟩
  | 127 => ⟨S8x0x1024, .f32⟩
  | _ => ⟨S8x1024x1024, .f32⟩

abbrev hbmTy0_1 (i : Nat) : BufTy := match i % 128 with
  | 0 => ⟨S8x0x1024, .f32⟩
  | 1 => ⟨S8x1x1024, .f32⟩
  | 2 => ⟨S8x1x1024, .f32⟩
  | 3 => ⟨S8x1x1024, .f32⟩
  | 4 => ⟨S8x1x1024, .f32⟩
  | 5 => ⟨S_, .f32⟩
  | 6 => ⟨S8x2x1024, .f32⟩
  | 7 => ⟨S_, .f32⟩
  | 8 => ⟨S8x2x1024, .f32⟩
  | 9 => ⟨S8x2x1024, .f32⟩
  | 10 => ⟨S_, .f32⟩
  | 11 => ⟨S8x2x1024, .f32⟩
  | 12 => ⟨S_, .f32⟩
  | 13 => ⟨S8x2x1024, .f32⟩
  | 14 => ⟨S8x2x1024, .f32⟩
  | 15 => ⟨S8x1x1024, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S8x1x1024, .f32⟩
  | 22 => ⟨S8x1x1024, .f32⟩
  | 23 => ⟨S8x2x1024, .f32⟩
  | 24 => ⟨S8x1x1024, .f32⟩
  | 25 => ⟨S8x2x1024, .f32⟩
  | 26 => ⟨S_, .f32⟩
  | 27 => ⟨S8x4x1024, .f32⟩
  | 28 => ⟨S_, .f32⟩
  | 29 => ⟨S8x4x1024, .f32⟩
  | 30 => ⟨S8x4x1024, .f32⟩
  | 31 => ⟨S_, .f32⟩
  | 32 => ⟨S8x4x1024, .f32⟩
  | 33 => ⟨S_, .f32⟩
  | 34 => ⟨S8x4x1024, .f32⟩
  | 35 => ⟨S8x4x1024, .f32⟩
  | 36 => ⟨S8x3x1024, .f32⟩
  | 37 => ⟨S8x3x1024, .f32⟩
  | 38 => ⟨S8x3x1024, .f32⟩
  | 39 => ⟨S8x3x1024, .f32⟩
  | 40 => ⟨S8x3x1024, .f32⟩
  | 41 => ⟨S8x3x1024, .f32⟩
  | 42 => ⟨S8x3x1024, .f32⟩
  | 43 => ⟨S8x1x1024, .f32⟩
  | 44 => ⟨S8x4x1024, .f32⟩
  | 45 => ⟨S8x1x1024, .f32⟩
  | 46 => ⟨S8x4x1024, .f32⟩
  | 47 => ⟨S_, .f32⟩
  | 48 => ⟨S8x8x1024, .f32⟩
  | 49 => ⟨S_, .f32⟩
  | 50 => ⟨S8x8x1024, .f32⟩
  | 51 => ⟨S8x8x1024, .f32⟩
  | 52 => ⟨S_, .f32⟩
  | 53 => ⟨S8x8x1024, .f32⟩
  | 54 => ⟨S_, .f32⟩
  | 55 => ⟨S8x8x1024, .f32⟩
  | 56 => ⟨S8x8x1024, .f32⟩
  | 57 => ⟨S8x7x1024, .f32⟩
  | 58 => ⟨S8x7x1024, .f32⟩
  | 59 => ⟨S8x7x1024, .f32⟩
  | 60 => ⟨S8x7x1024, .f32⟩
  | 61 => ⟨S8x7x1024, .f32⟩
  | 62 => ⟨S8x7x1024, .f32⟩
  | 63 => ⟨S8x7x1024, .f32⟩
  | 64 => ⟨S8x1x1024, .f32⟩
  | 65 => ⟨S8x8x1024, .f32⟩
  | 66 => ⟨S8x1x1024, .f32⟩
  | 67 => ⟨S8x8x1024, .f32⟩
  | 68 => ⟨S_, .f32⟩
  | 69 => ⟨S8x16x1024, .f32⟩
  | 70 => ⟨S_, .f32⟩
  | 71 => ⟨S8x16x1024, .f32⟩
  | 72 => ⟨S8x16x1024, .f32⟩
  | 73 => ⟨S_, .f32⟩
  | 74 => ⟨S8x16x1024, .f32⟩
  | 75 => ⟨S_, .f32⟩
  | 76 => ⟨S8x16x1024, .f32⟩
  | 77 => ⟨S8x16x1024, .f32⟩
  | 78 => ⟨S8x15x1024, .f32⟩
  | 79 => ⟨S8x15x1024, .f32⟩
  | 80 => ⟨S8x15x1024, .f32⟩
  | 81 => ⟨S8x15x1024, .f32⟩
  | 82 => ⟨S8x15x1024, .f32⟩
  | 83 => ⟨S8x15x1024, .f32⟩
  | 84 => ⟨S8x15x1024, .f32⟩
  | 85 => ⟨S8x1x1024, .f32⟩
  | 86 => ⟨S8x16x1024, .f32⟩
  | 87 => ⟨S8x1x1024, .f32⟩
  | 88 => ⟨S8x16x1024, .f32⟩
  | 89 => ⟨S_, .f32⟩
  | 90 => ⟨S8x32x1024, .f32⟩
  | 91 => ⟨S_, .f32⟩
  | 92 => ⟨S8x32x1024, .f32⟩
  | 93 => ⟨S8x32x1024, .f32⟩
  | 94 => ⟨S_, .f32⟩
  | 95 => ⟨S8x32x1024, .f32⟩
  | 96 => ⟨S_, .f32⟩
  | 97 => ⟨S8x32x1024, .f32⟩
  | 98 => ⟨S8x32x1024, .f32⟩
  | 99 => ⟨S8x31x1024, .f32⟩
  | 100 => ⟨S8x31x1024, .f32⟩
  | 101 => ⟨S8x31x1024, .f32⟩
  | 102 => ⟨S8x31x1024, .f32⟩
  | 103 => ⟨S8x31x1024, .f32⟩
  | 104 => ⟨S8x31x1024, .f32⟩
  | 105 => ⟨S8x31x1024, .f32⟩
  | 106 => ⟨S8x1x1024, .f32⟩
  | 107 => ⟨S8x32x1024, .f32⟩
  | 108 => ⟨S8x1x1024, .f32⟩
  | 109 => ⟨S8x32x1024, .f32⟩
  | 110 => ⟨S_, .f32⟩
  | 111 => ⟨S8x64x1024, .f32⟩
  | 112 => ⟨S_, .f32⟩
  | 113 => ⟨S8x64x1024, .f32⟩
  | 114 => ⟨S8x64x1024, .f32⟩
  | 115 => ⟨S_, .f32⟩
  | 116 => ⟨S8x64x1024, .f32⟩
  | 117 => ⟨S_, .f32⟩
  | 118 => ⟨S8x64x1024, .f32⟩
  | 119 => ⟨S8x64x1024, .f32⟩
  | 120 => ⟨S8x63x1024, .f32⟩
  | 121 => ⟨S8x63x1024, .f32⟩
  | 122 => ⟨S8x63x1024, .f32⟩
  | 123 => ⟨S8x63x1024, .f32⟩
  | 124 => ⟨S8x63x1024, .f32⟩
  | 125 => ⟨S8x63x1024, .f32⟩
  | 126 => ⟨S8x63x1024, .f32⟩
  | 127 => ⟨S8x1x1024, .f32⟩
  | _ => ⟨S8x1024x1024, .f32⟩

abbrev hbmTy0_2 (i : Nat) : BufTy := match i % 128 with
  | 0 => ⟨S8x64x1024, .f32⟩
  | 1 => ⟨S8x1x1024, .f32⟩
  | 2 => ⟨S8x64x1024, .f32⟩
  | 3 => ⟨S_, .f32⟩
  | 4 => ⟨S8x128x1024, .f32⟩
  | 5 => ⟨S_, .f32⟩
  | 6 => ⟨S8x128x1024, .f32⟩
  | 7 => ⟨S8x128x1024, .f32⟩
  | 8 => ⟨S_, .f32⟩
  | 9 => ⟨S8x128x1024, .f32⟩
  | 10 => ⟨S_, .f32⟩
  | 11 => ⟨S8x128x1024, .f32⟩
  | 12 => ⟨S8x128x1024, .f32⟩
  | 13 => ⟨S8x127x1024, .f32⟩
  | 14 => ⟨S8x127x1024, .f32⟩
  | 15 => ⟨S8x127x1024, .f32⟩
  | 16 => ⟨S8x127x1024, .f32⟩
  | 17 => ⟨S8x127x1024, .f32⟩
  | 18 => ⟨S8x127x1024, .f32⟩
  | 19 => ⟨S8x127x1024, .f32⟩
  | 20 => ⟨S8x1x1024, .f32⟩
  | 21 => ⟨S8x128x1024, .f32⟩
  | 22 => ⟨S8x1x1024, .f32⟩
  | 23 => ⟨S8x128x1024, .f32⟩
  | 24 => ⟨S_, .f32⟩
  | 25 => ⟨S8x256x1024, .f32⟩
  | 26 => ⟨S_, .f32⟩
  | 27 => ⟨S8x256x1024, .f32⟩
  | 28 => ⟨S8x256x1024, .f32⟩
  | 29 => ⟨S_, .f32⟩
  | 30 => ⟨S8x256x1024, .f32⟩
  | 31 => ⟨S_, .f32⟩
  | 32 => ⟨S8x256x1024, .f32⟩
  | 33 => ⟨S8x256x1024, .f32⟩
  | 34 => ⟨S8x255x1024, .f32⟩
  | 35 => ⟨S8x255x1024, .f32⟩
  | 36 => ⟨S8x255x1024, .f32⟩
  | 37 => ⟨S8x255x1024, .f32⟩
  | 38 => ⟨S8x255x1024, .f32⟩
  | 39 => ⟨S8x255x1024, .f32⟩
  | 40 => ⟨S8x255x1024, .f32⟩
  | 41 => ⟨S8x1x1024, .f32⟩
  | 42 => ⟨S8x256x1024, .f32⟩
  | 43 => ⟨S8x1x1024, .f32⟩
  | 44 => ⟨S8x256x1024, .f32⟩
  | 45 => ⟨S_, .f32⟩
  | 46 => ⟨S8x512x1024, .f32⟩
  | 47 => ⟨S_, .f32⟩
  | 48 => ⟨S8x512x1024, .f32⟩
  | 49 => ⟨S8x512x1024, .f32⟩
  | 50 => ⟨S_, .f32⟩
  | 51 => ⟨S8x512x1024, .f32⟩
  | 52 => ⟨S_, .f32⟩
  | 53 => ⟨S8x512x1024, .f32⟩
  | 54 => ⟨S8x512x1024, .f32⟩
  | 55 => ⟨S8x511x1024, .f32⟩
  | 56 => ⟨S8x511x1024, .f32⟩
  | 57 => ⟨S8x511x1024, .f32⟩
  | 58 => ⟨S8x511x1024, .f32⟩
  | 59 => ⟨S8x511x1024, .f32⟩
  | 60 => ⟨S8x511x1024, .f32⟩
  | 61 => ⟨S8x511x1024, .f32⟩
  | 62 => ⟨S8x1x1024, .f32⟩
  | 63 => ⟨S8x512x1024, .f32⟩
  | 64 => ⟨S8x1x1024, .f32⟩
  | 65 => ⟨S8x512x1024, .f32⟩
  | 66 => ⟨S_, .f32⟩
  | 67 => ⟨S8x1024x1024, .f32⟩
  | 68 => ⟨S_, .f32⟩
  | 69 => ⟨S8x1024x1024, .f32⟩
  | 70 => ⟨S8x1024x1024, .f32⟩
  | 71 => ⟨S_, .f32⟩
  | 72 => ⟨S8x1024x1024, .f32⟩
  | 73 => ⟨S_, .f32⟩
  | 74 => ⟨S8x1024x1024, .f32⟩
  | 75 => ⟨S8x1024x1024, .f32⟩
  | 76 => ⟨S8x2048, .i32⟩
  | 77 => ⟨S_, .i32⟩
  | 78 => ⟨S_, .i32⟩
  | 79 => ⟨S8x2048, .i32⟩
  | 80 => ⟨S_, .i32⟩
  | 81 => ⟨S8x2048, .i32⟩
  | 82 => ⟨S8x2048, .i32⟩
  | 83 => ⟨S_, .i32⟩
  | 84 => ⟨S_, .i32⟩
  | 85 => ⟨S_, .i32⟩
  | 86 => ⟨S8x2048, .i32⟩
  | 87 => ⟨S8x2048, .i32⟩
  | 88 => ⟨S_, .i32⟩
  | 89 => ⟨S8x2048, .i32⟩
  | 90 => ⟨S8x2048, .i32⟩
  | 91 => ⟨S8x2048x1, .i32⟩
  | 92 => ⟨S_, .i32⟩
  | 93 => ⟨S8x2048x1, .i32⟩
  | 94 => ⟨S8x2048x1, .i1⟩
  | 95 => ⟨S_, .i32⟩
  | 96 => ⟨S8x2048x1, .i32⟩
  | 97 => ⟨S8x2048x1, .i32⟩
  | 98 => ⟨S8x2048x1, .i32⟩
  | 99 => ⟨S1, .i32⟩
  | 100 => ⟨S_, .i32⟩
  | 101 => ⟨S8x2048x1, .i32⟩
  | 102 => ⟨S8x2048x1, .i1⟩
  | 103 => ⟨S1x1x1, .i32⟩
  | 104 => ⟨S8x2048x1, .i32⟩
  | 105 => ⟨S8x2048x1, .i1⟩
  | 106 => ⟨S8x2048x1, .i1⟩
  | 107 => ⟨S_, .i1⟩
  | 108 => ⟨S8x2048, .i1⟩
  | 109 => ⟨S8x2048x1024, .f32⟩
  | 110 => ⟨S8x2048x1024, .i1⟩
  | 111 => ⟨S_, .f32⟩
  | 112 => ⟨S8x2048x1024, .f32⟩
  | 113 => ⟨S8x2048x1024, .f32⟩
  | _ => ⟨S8x1024x1024, .f32⟩

abbrev hbmTy (i : Nat) : BufTy := match i / 128 with
  | 0 => hbmTy0_0 i
  | 1 => hbmTy0_1 i
  | 2 => hbmTy0_2 i
  | _ => ⟨S8x1024x1024, .f32⟩

abbrev bufTy : (tb : Table) → Fin (tcTables nBuf tb) → BufTy
  | .hbm, ⟨i, _⟩ => hbmTy i
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev main_cst : Ref sig .tc := ⟨.hbm, 26, rfl⟩
abbrev main_cst_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v1 : Ref sig .tc := ⟨.hbm, 33, rfl⟩
abbrev main_cst_1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_c : Ref sig .tc := ⟨.hbm, 42, rfl⟩
abbrev main_v9 : Ref sig .tc := ⟨.hbm, 43, rfl⟩
abbrev main_cst_2 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_c_3 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_4 : Ref sig .tc := ⟨.hbm, 133, rfl⟩
abbrev main_v97 : Ref sig .tc := ⟨.hbm, 134, rfl⟩
abbrev main_cst_5 : Ref sig .tc := ⟨.hbm, 135, rfl⟩
abbrev main_v98 : Ref sig .tc := ⟨.hbm, 136, rfl⟩
abbrev main_v99 : Ref sig .tc := ⟨.hbm, 137, rfl⟩
abbrev main_cst_6 : Ref sig .tc := ⟨.hbm, 138, rfl⟩
abbrev main_v100 : Ref sig .tc := ⟨.hbm, 139, rfl⟩
abbrev main_cst_7 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_8 : Ref sig .tc := ⟨.hbm, 154, rfl⟩
abbrev main_v114 : Ref sig .tc := ⟨.hbm, 155, rfl⟩
abbrev main_cst_9 : Ref sig .tc := ⟨.hbm, 156, rfl⟩
abbrev main_v115 : Ref sig .tc := ⟨.hbm, 157, rfl⟩
abbrev main_v116 : Ref sig .tc := ⟨.hbm, 158, rfl⟩
abbrev main_cst_10 : Ref sig .tc := ⟨.hbm, 159, rfl⟩
abbrev main_v117 : Ref sig .tc := ⟨.hbm, 160, rfl⟩
abbrev main_cst_11 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_12 : Ref sig .tc := ⟨.hbm, 175, rfl⟩
abbrev main_v131 : Ref sig .tc := ⟨.hbm, 176, rfl⟩
abbrev main_cst_13 : Ref sig .tc := ⟨.hbm, 177, rfl⟩
abbrev main_v132 : Ref sig .tc := ⟨.hbm, 178, rfl⟩
abbrev main_v133 : Ref sig .tc := ⟨.hbm, 179, rfl⟩
abbrev main_cst_14 : Ref sig .tc := ⟨.hbm, 180, rfl⟩
abbrev main_v134 : Ref sig .tc := ⟨.hbm, 181, rfl⟩
abbrev main_cst_15 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_cst_16 : Ref sig .tc := ⟨.hbm, 196, rfl⟩
abbrev main_v148 : Ref sig .tc := ⟨.hbm, 197, rfl⟩
abbrev main_cst_17 : Ref sig .tc := ⟨.hbm, 198, rfl⟩
abbrev main_v149 : Ref sig .tc := ⟨.hbm, 199, rfl⟩
abbrev main_v150 : Ref sig .tc := ⟨.hbm, 200, rfl⟩
abbrev main_cst_18 : Ref sig .tc := ⟨.hbm, 201, rfl⟩
abbrev main_v151 : Ref sig .tc := ⟨.hbm, 202, rfl⟩
abbrev main_cst_19 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_cst_20 : Ref sig .tc := ⟨.hbm, 217, rfl⟩
abbrev main_v165 : Ref sig .tc := ⟨.hbm, 218, rfl⟩
abbrev main_cst_21 : Ref sig .tc := ⟨.hbm, 219, rfl⟩
abbrev main_v166 : Ref sig .tc := ⟨.hbm, 220, rfl⟩
abbrev main_v167 : Ref sig .tc := ⟨.hbm, 221, rfl⟩
abbrev main_cst_22 : Ref sig .tc := ⟨.hbm, 222, rfl⟩
abbrev main_v168 : Ref sig .tc := ⟨.hbm, 223, rfl⟩
abbrev main_cst_23 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_cst_24 : Ref sig .tc := ⟨.hbm, 238, rfl⟩
abbrev main_v182 : Ref sig .tc := ⟨.hbm, 239, rfl⟩
abbrev main_cst_25 : Ref sig .tc := ⟨.hbm, 240, rfl⟩
abbrev main_v183 : Ref sig .tc := ⟨.hbm, 241, rfl⟩
abbrev main_v184 : Ref sig .tc := ⟨.hbm, 242, rfl⟩
abbrev main_cst_26 : Ref sig .tc := ⟨.hbm, 243, rfl⟩
abbrev main_v185 : Ref sig .tc := ⟨.hbm, 244, rfl⟩
abbrev main_cst_27 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_cst_28 : Ref sig .tc := ⟨.hbm, 259, rfl⟩
abbrev main_v199 : Ref sig .tc := ⟨.hbm, 260, rfl⟩
abbrev main_cst_29 : Ref sig .tc := ⟨.hbm, 261, rfl⟩
abbrev main_v200 : Ref sig .tc := ⟨.hbm, 262, rfl⟩
abbrev main_v201 : Ref sig .tc := ⟨.hbm, 263, rfl⟩
abbrev main_cst_30 : Ref sig .tc := ⟨.hbm, 264, rfl⟩
abbrev main_v202 : Ref sig .tc := ⟨.hbm, 265, rfl⟩
abbrev main_cst_31 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_cst_32 : Ref sig .tc := ⟨.hbm, 280, rfl⟩
abbrev main_v216 : Ref sig .tc := ⟨.hbm, 281, rfl⟩
abbrev main_cst_33 : Ref sig .tc := ⟨.hbm, 282, rfl⟩
abbrev main_v217 : Ref sig .tc := ⟨.hbm, 283, rfl⟩
abbrev main_v218 : Ref sig .tc := ⟨.hbm, 284, rfl⟩
abbrev main_cst_34 : Ref sig .tc := ⟨.hbm, 285, rfl⟩
abbrev main_v219 : Ref sig .tc := ⟨.hbm, 286, rfl⟩
abbrev main_cst_35 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_cst_36 : Ref sig .tc := ⟨.hbm, 301, rfl⟩
abbrev main_v233 : Ref sig .tc := ⟨.hbm, 302, rfl⟩
abbrev main_cst_37 : Ref sig .tc := ⟨.hbm, 303, rfl⟩
abbrev main_v234 : Ref sig .tc := ⟨.hbm, 304, rfl⟩
abbrev main_v235 : Ref sig .tc := ⟨.hbm, 305, rfl⟩
abbrev main_cst_38 : Ref sig .tc := ⟨.hbm, 306, rfl⟩
abbrev main_v236 : Ref sig .tc := ⟨.hbm, 307, rfl⟩
abbrev main_cst_39 : Ref sig .tc := ⟨.hbm, 308, rfl⟩
abbrev main_v237 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_cst_40 : Ref sig .tc := ⟨.hbm, 322, rfl⟩
abbrev main_v250 : Ref sig .tc := ⟨.hbm, 323, rfl⟩
abbrev main_cst_41 : Ref sig .tc := ⟨.hbm, 324, rfl⟩
abbrev main_v251 : Ref sig .tc := ⟨.hbm, 325, rfl⟩
abbrev main_v252 : Ref sig .tc := ⟨.hbm, 326, rfl⟩
abbrev main_cst_42 : Ref sig .tc := ⟨.hbm, 327, rfl⟩
abbrev main_v253 : Ref sig .tc := ⟨.hbm, 328, rfl⟩
abbrev main_cst_43 : Ref sig .tc := ⟨.hbm, 329, rfl⟩
abbrev main_v254 : Ref sig .tc := ⟨.hbm, 330, rfl⟩
abbrev main_v255 : Ref sig .tc := ⟨.hbm, 331, rfl⟩
abbrev main_v256 : Ref sig .tc := ⟨.hbm, 332, rfl⟩
abbrev main_call2_call0_c : Ref sig .tc := ⟨.hbm, 333, rfl⟩
abbrev main_call2_call0_v0 : Ref sig .tc := ⟨.hbm, 334, rfl⟩
abbrev main_v257 : Ref sig .tc := ⟨.hbm, 335, rfl⟩
abbrev main_c_44 : Ref sig .tc := ⟨.hbm, 336, rfl⟩
abbrev main_v258 : Ref sig .tc := ⟨.hbm, 337, rfl⟩
abbrev main_v259 : Ref sig .tc := ⟨.hbm, 338, rfl⟩
abbrev main_c_45 : Ref sig .tc := ⟨.hbm, 339, rfl⟩
abbrev main_c_46 : Ref sig .tc := ⟨.hbm, 340, rfl⟩
abbrev main_call3_v0 : Ref sig .tc := ⟨.hbm, 341, rfl⟩
abbrev main_call3_v1 : Ref sig .tc := ⟨.hbm, 342, rfl⟩
abbrev main_call3_v2 : Ref sig .tc := ⟨.hbm, 343, rfl⟩
abbrev main_call3_v3 : Ref sig .tc := ⟨.hbm, 344, rfl⟩
abbrev main_call3_v4 : Ref sig .tc := ⟨.hbm, 345, rfl⟩
abbrev main_v260 : Ref sig .tc := ⟨.hbm, 346, rfl⟩
abbrev main_v261 : Ref sig .tc := ⟨.hbm, 347, rfl⟩
abbrev main_call4_c : Ref sig .tc := ⟨.hbm, 348, rfl⟩
abbrev main_call4_v0 : Ref sig .tc := ⟨.hbm, 349, rfl⟩
abbrev main_call4_v1 : Ref sig .tc := ⟨.hbm, 350, rfl⟩
abbrev main_call4_c_0 : Ref sig .tc := ⟨.hbm, 351, rfl⟩
abbrev main_call4_v2 : Ref sig .tc := ⟨.hbm, 352, rfl⟩
abbrev main_call4_v3 : Ref sig .tc := ⟨.hbm, 353, rfl⟩
abbrev main_call4_v4 : Ref sig .tc := ⟨.hbm, 354, rfl⟩
abbrev main_call4_c_1 : Ref sig .tc := ⟨.hbm, 355, rfl⟩
abbrev main_call4_c_2 : Ref sig .tc := ⟨.hbm, 356, rfl⟩
abbrev main_call4_v5 : Ref sig .tc := ⟨.hbm, 357, rfl⟩
abbrev main_call4_v6 : Ref sig .tc := ⟨.hbm, 358, rfl⟩
abbrev main_call4_v7 : Ref sig .tc := ⟨.hbm, 359, rfl⟩
abbrev main_call4_v8 : Ref sig .tc := ⟨.hbm, 360, rfl⟩
abbrev main_call4_v9 : Ref sig .tc := ⟨.hbm, 361, rfl⟩
abbrev main_call4_v10 : Ref sig .tc := ⟨.hbm, 362, rfl⟩
abbrev main_call4_c_3 : Ref sig .tc := ⟨.hbm, 363, rfl⟩
abbrev main_call4_v11 : Ref sig .tc := ⟨.hbm, 364, rfl⟩
abbrev main_call4_v12 : Ref sig .tc := ⟨.hbm, 365, rfl⟩
abbrev main_call4_v13 : Ref sig .tc := ⟨.hbm, 366, rfl⟩
abbrev main_call4_cst : Ref sig .tc := ⟨.hbm, 367, rfl⟩
abbrev main_call4_v14 : Ref sig .tc := ⟨.hbm, 368, rfl⟩
abbrev main_v262 : Ref sig .tc := ⟨.hbm, 369, rfl⟩

abbrev nD : Nat := 1
abbrev τ : Topo := Topo.v7x

variable {F : FTy → Type} [FloatOps F]
-- ==== Proof.Body.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.WordArith
public import Idealize.ShloMosaic.Lib.Tactic
public import Idealize.ShloMosaic.Lib.Pointwise.Index
public import Idealize.ShloMosaic.Lib.WritesUnit
public import Idealize.ShloMosaic.Lib.VecWindow
public import Idealize.ShloMosaic.Lib.Pipeline.Value

@[expose] public section

noncomputable section

namespace Cert.Proof

open Cert.KernelIdeal Cert.KernelIdeal.Gen
open Idealize.ShloMosaic Idealize.ShloMosaic.TcCoe Idealize.ShloMosaic.Tactic Idealize.ShloMosaic.WordArith
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

abbrev 𝒱₀ : Variants := Variants.none

/-! ## The smoothed rows -/

/-- A probability clipped to the kernel's bounds. -/
def clipP (q : F .f32) : F .f32 :=
  Scalar.minimumf (Scalar.ofBits .f32 0x3F7FF972#32) (Scalar.maximumf (Scalar.ofBits .f32 0x38D1B717#32) q)

/-- One step of the smoothing: the row weighted by its probability plus the row before it weighted by the rest. -/
def mix (p : F .f32) (h s : FVec F S1x1024 .f32) : FVec F S1x1024 .f32 :=
  addf (mulf (broadcast S1x1024 p) h)
    (mulf (broadcast S1x1024 (Scalar.subf (Scalar.ofBits .f32 0x3F800000#32) p)) s)

/-- Row `r` of the hidden block. -/
def hRow (X3 : S1x1024x1024.Idx → F .f32) (r : ℕ) : FVec F S1x1024 .f32 :=
  fun j => X3 (ix3 ⟨0, by decide⟩ ⟨r % 1024, Nat.mod_lt _ (by decide)⟩ (j 1))

/-- Row `r`'s clipped probability: the word table names the place in the probability block. -/
def pRow (X1 : S1x1x2048.Idx → F .f32) (X2 : S1x1x1024.Idx → BitVec 32) (r : ℕ) : F .f32 :=
  clipP (X1 (ix3 ⟨0, by decide⟩ ⟨0, by decide⟩ ⟨(X2 (ix3 ⟨0, by decide⟩ ⟨0, by decide⟩ ⟨r % 1024, Nat.mod_lt _ (by decide)⟩)).toNat % 2048, Nat.mod_lt _ (by decide)⟩))

/-- The smoothed rows. -/
def rows (X1 : S1x1x2048.Idx → F .f32) (X2 : S1x1x1024.Idx → BitVec 32) (X3 : S1x1024x1024.Idx → F .f32) : ℕ → FVec F S1x1024 .f32
  | 0 => hRow X3 0
  | r + 1 => mix (pRow X1 X2 (r + 1)) (hRow X3 (r + 1)) (rows X1 X2 X3 r)

theorem rows_pos (X1 : S1x1x2048.Idx → F .f32) (X2 : S1x1x1024.Idx → BitVec 32) (X3 : S1x1024x1024.Idx → F .f32) (r : ℕ) (hr : 0 < r) :
    rows X1 X2 X3 r = mix (pRow X1 X2 r) (hRow X3 r) (rows X1 X2 X3 (r - 1)) := by
  cases r with
  | zero => exact absurd hr (lt_irrefl 0)
  | succ r => rfl

/-! ## The loop -/

/-- A word below 2048 names a place of the probability block. -/
theorem word_inb (w : BitVec 32) (h : w.toNat < 2048) : ∀ a, (k0_off3 w) a + S1x1x1.size a ≤ S1x1x2048.size a := by
  intro a
  have e : k0_off3 w = ![0, 0, w.toNat] := rfl
  rw [e]
  fin_cases a
  · show 0 + 1 ≤ 1
    omega
  · show 0 + 1 ≤ 1
    omega
  · show w.toNat + 1 ≤ 2048
    omega

/-- A row rounded to the scratch's element type. -/
def bfRow (x : FVec F S1x1024 .f32) : FVec F S1x1024 .bf16 := truncf .bf16 x bitsLt_bf16_f32

/-- The block of sixteen rows a trip stores, read at an element: the row its first coordinate names, rounded. -/
theorem pay25_apply (R : ℕ → FVec F S1x1024 .f32) (j : S16x1024.Idx) :
    k0_pay25 (R 0) (R 1) (R 2) (R 3) (R 4) (R 5) (R 6) (R 7) (R 8) (R 9) (R 10) (R 11) (R 12) (R 13) (R 14) (R 15) j
      = bfRow (R (j 0).val) (ix2 ⟨0, by decide⟩ (j 1)) := by
  unfold k0_pay25
  dsimp only
  rw [shapeCast_self]
  have h := concatenate_ofFn_unit_apply (t := S16x1024) (s₁ := S1x1024) 0 (N := 16) (fun n => R n.val)
    concatenates_S1x1024_S1x1024_S1x1024_S1x1024_S1x1024_S1x1024_S1x1024_S1x1024_S1x1024_S1x1024_S1x1024_S1x1024_S1x1024_S1x1024_S1x1024_S1x1024_S16x1024_d0
    rfl rfl j (j 0) rfl (ix2 ⟨0, by decide⟩ (j 1)) (by
      intro b hb
      match b with
      | ⟨0, _⟩ => exact absurd rfl hb
      | ⟨1, _⟩ => rfl)
  exact congrArg (fun z : F .f32 => FloatOps.truncf .bf16 bitsLt_bf16_f32 z) h

/-- A word of the table, loaded at the place its row names. -/
theorem word_read (c : Dev nD) (arg4 : Memref sig .tc .smem S1x1x1024 .i32) (g4 : Buf (Elt F) (arg4.view.loc (c : Thread nD τ)))
    (r : ℕ) (hr : r < 1024) {off : Fin 3 → ℕ} (hoff : off = ![0, 0, r]) (inb : ∀ a, off a + S1x1x1.size a ≤ S1x1x1024.size a) (j : S1x1x1.Idx) :
    arg4.view.readAt (Elt F) (Rect.unit (s := S1x1x1024) off S1x1x1.size inb).toLoadRect g4 j
      = arg4.view.read (Elt F) g4 (ix3 ⟨0, by decide⟩ ⟨0, by decide⟩ ⟨r % 1024, Nat.mod_lt _ (by decide)⟩) := by
  subst hoff
  rw [View.readAt_apply]
  congr 1
  funext a
  apply Fin.ext
  have hj := (j a).isLt
  match a with
  | ⟨0, _⟩ => show 0 + 1 * (j 0).val = 0; have : (j 0).val < 1 := hj; omega
  | ⟨1, _⟩ => show 0 + 1 * (j 1).val = 0; have : (j 1).val < 1 := hj; omega
  | ⟨2, _⟩ => show r + 1 * (j 2).val = r % 1024; have : (j 2).val < 1 := hj; omega

/-- A probability, loaded at the place a word names. -/
theorem prob_read (c : Dev nD) (arg3 : Memref sig .tc .smem S1x1x2048 .f32) (g3 : Buf (Elt F) (arg3.view.loc (c : Thread nD τ)))
    (w : BitVec 32) (hw : w.toNat < 2048) {off : Fin 3 → ℕ} (hoff : off = ![0, 0, w.toNat]) (inb : ∀ a, off a + S1x1x1.size a ≤ S1x1x2048.size a) (j : S1x1x1.Idx) :
    arg3.view.readAt (Elt F) (Rect.unit (s := S1x1x2048) off S1x1x1.size inb).toLoadRect g3 j
      = arg3.view.read (Elt F) g3 (ix3 ⟨0, by decide⟩ ⟨0, by decide⟩ ⟨w.toNat % 2048, Nat.mod_lt _ (by decide)⟩) := by
  subst hoff
  rw [View.readAt_apply]
  congr 1
  funext a
  apply Fin.ext
  have hj := (j a).isLt
  match a with
  | ⟨0, _⟩ => show 0 + 1 * (j 0).val = 0; have : (j 0).val < 1 := hj; omega
  | ⟨1, _⟩ => show 0 + 1 * (j 1).val = 0; have : (j 1).val < 1 := hj; omega
  | ⟨2, _⟩ => show w.toNat + 1 * (j 2).val = w.toNat % 2048; have : (j 2).val < 1 := hj; omega

/-- Row `q` of the sixteen a trip loads. -/
theorem slice_row (c : Dev nD) (arg5 : Memref sig .tc .vmem S1x1024x1024 .f32) (g5 : Buf (Elt F) (arg5.view.loc (c : Thread nD τ)))
    (b q : ℕ) (hq : b + q < 1024) {off : Fin 3 → ℕ} (hoff : off = ![0, b, 0]) (inb : ∀ a, off a + S1x16x1024.size a ≤ S1x1024x1024.size a)
    (hs : S16x1024.Slices ![q, 0] S1x1024) :
    extractStridedSlice S1x1024 ![q, 0] (k0_pay2 (arg5.view.readAt (Elt F) (Rect.unit (s := S1x1024x1024) off S1x16x1024.size inb).toLoadRect g5)) hs
      = hRow (arg5.view.read (Elt F) g5) (b + q) := by
  subst hoff
  funext j
  have hj0 : (j 0).val < 1 := (j 0).isLt
  have hq16 : q < 16 := by have := hs.2 0; have h2 : q + 1 ≤ 16 := this; omega
  refine (extractStridedSlice_apply ![q, 0] _ hs j (ix2 ⟨q, hq16⟩ (j 1)) (by
    intro a
    match a with
    | ⟨0, _⟩ => show q = q + (j 0).val; omega
    | ⟨1, _⟩ => show (j 1).val = 0 + (j 1).val; omega)).trans ?_
  unfold k0_pay2 hRow
  dsimp only
  refine (shapeCast_dropUnit_apply _ _ _ _).trans ?_
  rw [View.readAt_apply]
  congr 1
  funext a
  apply Fin.ext
  match a with
  | ⟨0, _⟩ => rfl
  | ⟨1, _⟩ => show b + 1 * q = (b + q) % 1024; omega
  | ⟨2, _⟩ => show 0 + 1 * (j 1).val = (j 1).val; omega

section Loop

variable (c : Dev nD) (i : grid0.Coords) (arg2 : Memref sig .tc .vmem S1x256x1 .i32) (harg2 : arg2.IsWhole) (arg3 : Memref sig .tc .smem S1x1x2048 .f32) (harg3 : arg3.IsWhole) (arg4 : Memref sig .tc .smem S1x1x1024 .i32) (harg4 : arg4.IsWhole) (arg5 : Memref sig .tc .vmem S1x1024x1024 .f32) (harg5 : arg5.IsWhole) (arg6 : Memref sig .tc .vmem S1x256x1024 .f32) (harg6 : arg6.IsWhole) (arg7 : Memref sig .tc .vmem S1024x1024 .bf16) (harg7 : arg7.IsWhole) (arg8 : Memref sig .tc .smem S1 .i32) (harg8 : arg8.IsWhole) (k0_h1 : k0_cond1 i = 1#1)
  (g3 : Buf (Elt F) (arg3.view.loc (c : Thread nD τ))) (g4 : Buf (Elt F) (arg4.view.loc (c : Thread nD τ)))
  (g5 : Buf (Elt F) (arg5.view.loc (c : Thread nD τ)))

/-- The three blocks the loop reads. -/
abbrev heldIn : sProp 𝕄 :=
  iprop((arg3.view.loc (c : Thread nD τ) ↦[arg3.view.set]{fullShare} g3)
    ∗ (arg4.view.loc (c : Thread nD τ) ↦[arg4.view.set]{fullShare} g4)
    ∗ (arg5.view.loc (c : Thread nD τ) ↦[arg5.view.set]{fullShare} g5))

/-- One unrolled step of a trip: from the row before it, the next of the smoothed rows. -/
theorem row_step (hX : ∀ x, (arg4.view.read (Elt F) g4 x).toNat < 2048) (b q : ℕ) (hq : b + (q + 1) < 1024)
    {off1 off4 off3 : Fin 3 → ℕ} (h1 : off1 = ![0, b, 0]) (inb1 : ∀ a, off1 a + S1x16x1024.size a ≤ S1x1024x1024.size a)
    (h4 : off4 = ![0, 0, b + (q + 1)]) (inb4 : ∀ a, off4 a + S1x1x1.size a ≤ S1x1x1024.size a) (j4 : S1x1x1.Idx)
    (h3 : off3 = ![0, 0, (arg4.view.readAt (Elt F) (Rect.unit (s := S1x1x1024) off4 S1x1x1.size inb4).toLoadRect g4 j4).toNat])
    (inb3 : ∀ a, off3 a + S1x1x1.size a ≤ S1x1x2048.size a) (j3 : S1x1x1.Idx)
    (hs : S16x1024.Slices ![q + 1, 0] S1x1024) (prev : FVec F S1x1024 .f32)
    (hprev : prev = rows (arg3.view.read (Elt F) g3) (arg4.view.read (Elt F) g4) (arg5.view.read (Elt F) g5) (b + q)) :
    mix (clipP (arg3.view.readAt (Elt F) (Rect.unit (s := S1x1x2048) off3 S1x1x1.size inb3).toLoadRect g3 j3))
      (extractStridedSlice S1x1024 ![q + 1, 0] (k0_pay2 (arg5.view.readAt (Elt F) (Rect.unit (s := S1x1024x1024) off1 S1x16x1024.size inb1).toLoadRect g5)) hs) prev
      = rows (arg3.view.read (Elt F) g3) (arg4.view.read (Elt F) g4) (arg5.view.read (Elt F) g5) (b + (q + 1)) := by
  have hp := prob_read c arg3 g3 (arg4.view.readAt (Elt F) (Rect.unit (s := S1x1x1024) off4 S1x1x1.size inb4).toLoadRect g4 j4) (hX _) h3 inb3 j3
  rw [slice_row c arg5 g5 b (q + 1) hq h1 inb1 hs, hp, hprev]
  simp only [word_read c arg4 g4 (b + (q + 1)) hq h4 inb4 j4]
  rfl

/-- The trip's first step: the hidden row itself at the block's first row, else one step from the row carried in. -/
theorem row_first (hX : ∀ x, (arg4.view.read (Elt F) g4 x).toNat < 2048) (k : Fin k0_t1_loop.trips) (acc : FVec F S1x1024 .f32)
    {off1 off4 off3 : Fin 3 → ℕ} (h1 : off1 = ![0, 16 * k.val, 0]) (inb1 : ∀ a, off1 a + S1x16x1024.size a ≤ S1x1024x1024.size a)
    (h4 : off4 = ![0, 0, 16 * k.val]) (inb4 : ∀ a, off4 a + S1x1x1.size a ≤ S1x1x1024.size a) (j4 : S1x1x1.Idx)
    (h3 : off3 = ![0, 0, (arg4.view.readAt (Elt F) (Rect.unit (s := S1x1x1024) off4 S1x1x1.size inb4).toLoadRect g4 j4).toNat])
    (inb3 : ∀ a, off3 a + S1x1x1.size a ≤ S1x1x2048.size a) (j3 : S1x1x1.Idx)
    (hacc : 0 < k.val → acc = rows (arg3.view.read (Elt F) g3) (arg4.view.read (Elt F) g4) (arg5.view.read (Elt F) g5) (16 * k.val - 1)) :
    k0_pay3 0#32 1#32 k acc (arg5.view.readAt (Elt F) (Rect.unit (s := S1x1024x1024) off1 S1x16x1024.size inb1).toLoadRect g5)
        (arg3.view.readAt (Elt F) (Rect.unit (s := S1x1x2048) off3 S1x1x1.size inb3).toLoadRect g3 j3)
      = rows (arg3.view.read (Elt F) g3) (arg4.view.read (Elt F) g4) (arg5.view.read (Elt F) g5) (16 * k.val + 0) := by
  have hk : k.val < 64 := k.isLt
  unfold k0_pay3
  dsimp only
  have hp := prob_read c arg3 g3 (arg4.view.readAt (Elt F) (Rect.unit (s := S1x1x1024) off4 S1x1x1.size inb4).toLoadRect g4 j4) (hX _) h3 inb3 j3
  rw [slice_row c arg5 g5 (16 * k.val) 0 (by omega) h1 inb1, hp]
  simp only [word_read c arg4 g4 (16 * k.val) (by omega) h4 inb4 j4]
  have hiv : Scf.iv (0#32 : BitVec 32) 1#32 k = BitVec.ofNat 32 k.val := by
    show (0#32 : BitVec 32) + BitVec.ofNat 32 k.val * 1#32 = _
    simp
  rw [hiv]
  by_cases h0 : k.val = 0
  · obtain rfl : k = ⟨0, by decide⟩ := Fin.ext h0
    rfl
  · have hc : Scalar.cmpi .eq (BitVec.ofNat 32 k.val) 0#32 = 0#1 := by
      show BitVec.ofBool (BitVec.ofNat 32 k.val == 0#32) = 0#1
      have : (BitVec.ofNat 32 k.val == 0#32) = false := by
        rw [beq_eq_false_iff_ne]
        intro h
        have := congrArg BitVec.toNat h
        simp at this
        omega
      rw [this]; rfl
    rw [hc, hacc (by omega)]
    refine Eq.trans ?_ (rows_pos _ _ _ (16 * k.val) (by omega)).symm
    rfl

/-- What holds before trip `k`: the rows of the trips before it are in the scratch, and the row carried is the last of them. -/
def before (X1 : S1x1x2048.Idx → F .f32) (X2 : S1x1x1024.Idx → BitVec 32) (X3 : S1x1024x1024.Idx → F .f32)
    (f7 : Buf (Elt F) (arg7.view.loc (c : Thread nD τ))) (k : ℕ) (acc : FVec F S1x1024 .f32) : Prop :=
  (∀ y : S1024x1024.Idx, (y 0).val < 16 * k → arg7.view.read (Elt F) f7 y = bfRow (rows X1 X2 X3 (y 0).val) (ix2 ⟨0, by decide⟩ (y 1)))
    ∧ (0 < k → acc = rows X1 X2 X3 (16 * k - 1))

/-- The loop's invariant. -/
def loopAt (k : ℕ) (acc : FVec F S1x1024 .f32) : sProp 𝕄 :=
  iprop(heldIn c arg3 arg4 arg5 g3 g4 g5 ∗ ∃ f7, (arg7.view.loc (c : Thread nD τ) ↦[arg7.view.set]{fullShare} f7)
    ∗ ⌜before c arg7 (arg3.view.read (Elt F) g3) (arg4.view.read (Elt F) g4) (arg5.view.read (Elt F) g5) f7 k acc⌝)

set_option maxHeartbeats 1000000 in
/-- One trip of the loop. -/
theorem trip (k : Fin k0_t1_loop.trips) (acc : FVec F S1x1024 .f32)
    (hX : ∀ x, (arg4.view.read (Elt F) g4 x).toNat < 2048) :
    loopAt c arg3 arg4 arg5 arg7 g3 g4 g5 k.val acc
      ⊢ wp Idealize.ShloMosaic.frame (wpE (defs₀ (F := F)) 𝒱₀ (c : Thread nD τ) none) Set.univ
        (k0_t1_body (F := F) i arg2 harg2 arg3 harg3 arg4 harg4 arg5 harg5 arg6 harg6 arg7 harg7 arg8 harg8 k0_h1 k acc)
        (loopAt c arg3 arg4 arg5 arg7 g3 g4 g5 (k.val + 1)) := by
  unfold loopAt heldIn k0_t1_body
  iintro ⟨⟨H3, H4, H5⟩, %f7, H7, %hk⟩
  sl_exec (disch := exact fun _ => word_inb _ (hX _))
  sl_step
  isplitl [H3 H4 H5]
  · isplitl [H3]; · iexact H3
    isplitl [H4]; · iexact H4
    iexact H5
  iexists _
  isplitl [H7]; · iexact H7
  ipureintro
  have hk64 : k.val < 64 := k.isLt
  let R : ℕ → FVec F S1x1024 .f32 := fun q => rows (arg3.view.read (Elt F) g3) (arg4.view.read (Elt F) g4) (arg5.view.read (Elt F) g5) (16 * k.val + q)
  have e0 : trip.sl.r_5 c i arg3 arg4 arg5 k0_h1 g3 g4 g5 k acc hX = R 0 :=
    row_first c arg3 arg4 arg5 g3 g4 g5 hX k acc (k0_off1_eq k) (k0_off1_inb i k k0_h1) (k0_off2_eq k) _ _ rfl _ _ hk.2
  have e1 : trip.sl.r_6 c i arg3 arg4 arg5 k0_h1 g3 g4 g5 k acc hX = R 1 :=
    row_step c arg3 arg4 arg5 g3 g4 g5 hX (16 * k.val) 0 (by omega) (k0_off1_eq k) (k0_off1_inb i k k0_h1) (k0_off4_eq k) _ _ rfl _ _ slices_S16x1024_o1_0_S1x1024 _ e0
  have e2 : trip.sl.r_13 c i arg3 arg4 arg5 k0_h1 g3 g4 g5 k acc hX = R 2 :=
    row_step c arg3 arg4 arg5 g3 g4 g5 hX (16 * k.val) 1 (by omega) (k0_off1_eq k) (k0_off1_inb i k k0_h1) (k0_off6_eq k) _ _ rfl _ _ slices_S16x1024_o2_0_S1x1024 _ e1
  have e3 : trip.sl.r_14 c i arg3 arg4 arg5 k0_h1 g3 g4 g5 k acc hX = R 3 :=
    row_step c arg3 arg4 arg5 g3 g4 g5 hX (16 * k.val) 2 (by omega) (k0_off1_eq k) (k0_off1_inb i k k0_h1) (k0_off8_eq k) _ _ rfl _ _ slices_S16x1024_o3_0_S1x1024 _ e2
  have e4 : trip.sl.r_22 c i arg3 arg4 arg5 k0_h1 g3 g4 g5 k acc hX = R 4 :=
    row_step c arg3 arg4 arg5 g3 g4 g5 hX (16 * k.val) 3 (by omega) (k0_off1_eq k) (k0_off1_inb i k k0_h1) (k0_off10_eq k) _ _ rfl _ _ slices_S16x1024_o4_0_S1x1024 _ e3
  have e5 : trip.sl.r_23 c i arg3 arg4 arg5 k0_h1 g3 g4 g5 k acc hX = R 5 :=
    row_step c arg3 arg4 arg5 g3 g4 g5 hX (16 * k.val) 4 (by omega) (k0_off1_eq k) (k0_off1_inb i k k0_h1) (k0_off12_eq k) _ _ rfl _ _ slices_S16x1024_o5_0_S1x1024 _ e4
  have e6 : trip.sl.r_24 c i arg3 arg4 arg5 k0_h1 g3 g4 g5 k acc hX = R 6 :=
    row_step c arg3 arg4 arg5 g3 g4 g5 hX (16 * k.val) 5 (by omega) (k0_off1_eq k) (k0_off1_inb i k k0_h1) (k0_off14_eq k) _ _ rfl _ _ slices_S16x1024_o6_0_S1x1024 _ e5
  have e7 : trip.sl.r_30 c i arg3 arg4 arg5 k0_h1 g3 g4 g5 k acc hX = R 7 :=
    row_step c arg3 arg4 arg5 g3 g4 g5 hX (16 * k.val) 6 (by omega) (k0_off1_eq k) (k0_off1_inb i k k0_h1) (k0_off16_eq k) _ _ rfl _ _ slices_S16x1024_o7_0_S1x1024 _ e6
  have e8 : trip.sl.r_31 c i arg3 arg4 arg5 k0_h1 g3 g4 g5 k acc hX = R 8 :=
    row_step c arg3 arg4 arg5 g3 g4 g5 hX (16 * k.val) 7 (by omega) (k0_off1_eq k) (k0_off1_inb i k k0_h1) (k0_off18_eq k) _ _ rfl _ _ slices_S16x1024_o8_0_S1x1024 _ e7
  have e9 : trip.sl.r_40 c i arg3 arg4 arg5 k0_h1 g3 g4 g5 k acc hX = R 9 :=
    row_step c arg3 arg4 arg5 g3 g4 g5 hX (16 * k.val) 8 (by omega) (k0_off1_eq k) (k0_off1_inb i k k0_h1) (k0_off20_eq k) _ _ rfl _ _ slices_S16x1024_o9_0_S1x1024 _ e8
  have e10 : trip.sl.r_41 c i arg3 arg4 arg5 k0_h1 g3 g4 g5 k acc hX = R 10 :=
    row_step c arg3 arg4 arg5 g3 g4 g5 hX (16 * k.val) 9 (by omega) (k0_off1_eq k) (k0_off1_inb i k k0_h1) (k0_off22_eq k) _ _ rfl _ _ slices_S16x1024_o10_0_S1x1024 _ e9
  have e11 : trip.sl.r_42 c i arg3 arg4 arg5 k0_h1 g3 g4 g5 k acc hX = R 11 :=
    row_step c arg3 arg4 arg5 g3 g4 g5 hX (16 * k.val) 10 (by omega) (k0_off1_eq k) (k0_off1_inb i k k0_h1) (k0_off24_eq k) _ _ rfl _ _ slices_S16x1024_o11_0_S1x1024 _ e10
  have e12 : trip.sl.r_47 c i arg3 arg4 arg5 k0_h1 g3 g4 g5 k acc hX = R 12 :=
    row_step c arg3 arg4 arg5 g3 g4 g5 hX (16 * k.val) 11 (by omega) (k0_off1_eq k) (k0_off1_inb i k k0_h1) (k0_off26_eq k) _ _ rfl _ _ slices_S16x1024_o12_0_S1x1024 _ e11
  have e13 : trip.sl.r_48 c i arg3 arg4 arg5 k0_h1 g3 g4 g5 k acc hX = R 13 :=
    row_step c arg3 arg4 arg5 g3 g4 g5 hX (16 * k.val) 12 (by omega) (k0_off1_eq k) (k0_off1_inb i k k0_h1) (k0_off28_eq k) _ _ rfl _ _ slices_S16x1024_o13_0_S1x1024 _ e12
  have e14 : trip.sl.r_49 c i arg3 arg4 arg5 k0_h1 g3 g4 g5 k acc hX = R 14 :=
    row_step c arg3 arg4 arg5 g3 g4 g5 hX (16 * k.val) 13 (by omega) (k0_off1_eq k) (k0_off1_inb i k k0_h1) (k0_off30_eq k) _ _ rfl _ _ slices_S16x1024_o14_0_S1x1024 _ e13
  have e15 : trip.sl.v322 c i arg3 arg4 arg5 k0_h1 g3 g4 g5 k acc hX = R 15 :=
    row_step c arg3 arg4 arg5 g3 g4 g5 hX (16 * k.val) 14 (by omega) (k0_off1_eq k) (k0_off1_inb i k k0_h1) (k0_off32_eq k) _ _ rfl _ _ slices_S16x1024_o15_0_S1x1024 _ e14
  rw [e0, e1, e2, e3, e4, e5, e6, e7, e8, e9, e10, e11, e12, e13, e14, e15]
  refine ⟨fun y hy => ?_, fun _ => ?_⟩
  · by_cases hlt : (y 0).val < 16 * k.val
    · exact (View.read_writes_cons_unit_of_not_mem arg7.view f7 _ _ _ y (k0_off34_eq k) 0 (Or.inl hlt)).trans (hk.1 y hlt)
    · refine (View.read_writes_cons_unit_of_mem arg7.view f7 _ _ _ y (ix2 (n0 := 16) (n1 := 1024) ⟨(y 0).val - 16 * k.val, by omega⟩ (y 1)) (k0_off34_eq k) ?_).trans ?_
      · intro a
        match a with
        | ⟨0, _⟩ => show (y 0).val = 16 * k.val + ((y 0).val - 16 * k.val); omega
        | ⟨1, _⟩ => show (y 1).val = 0 + (y 1).val; omega
      refine (pay25_apply R _).trans ?_
      show bfRow (rows _ _ _ (16 * k.val + ((y 0).val - 16 * k.val))) _ = _
      rw [show 16 * k.val + ((y 0).val - 16 * k.val) = (y 0).val by omega]
      rfl
  · show rows _ _ _ (16 * k.val + 15) = _
    congr 1

set_option warn.classDefReducibility false in
/-- The loop's invariant, as the run finds it. -/
@[sl_loop] def loopInv (init : FVec F S1x1024 .f32) :
    LoopInvTy_k0_t1 (F := F) Unit ℕ (UR sig nD τ) ℕ 𝒱₀ c none Set.univ i arg2 harg2 arg3 harg3 arg4 harg4 arg5 harg5 arg6 harg6 arg7 harg7 arg8 harg8 k0_h1 init where
  inv k acc := iprop(⌜∀ x, (arg4.view.read (Elt F) g4 x).toNat < 2048⌝ ∗ loopAt c arg3 arg4 arg5 arg7 g3 g4 g5 k acc)
  step k acc := by
    iintro ⟨%hX, H⟩
    iapply (wp_wand_r Idealize.ShloMosaic.frame (wpE (defs₀ (F := F)) 𝒱₀ (c : Thread nD τ) none) Set.univ)
    isplitl [H]
    · iapply (trip c i arg2 harg2 arg3 harg3 arg4 harg4 arg5 harg5 arg6 harg6 arg7 harg7 arg8 harg8 k0_h1 g3 g4 g5 k acc hX) $$ H
    · iintro %acc' H'
      isplitr; · ipureintro; exact hX
      iexact H'

end Loop

/-! ## The body -/

/-- The window's first row, clamped, is a multiple of sixteen no greater than 736. -/
theorem clamp_word (x : BitVec 32) :
    (Scalar.minsi 736#32 (Scalar.maxsi 0#32 (Scalar.muli x 16#32))).toNat ≤ 736 ∧ 16 ∣ (Scalar.minsi 736#32 (Scalar.maxsi 0#32 (Scalar.muli x 16#32))).toNat := by
  have h16 : 16 ∣ (Scalar.muli x 16#32).toNat := by
    show 16 ∣ (x * 16#32).toNat
    rw [BitVec.toNat_mul]
    simp only [BitVec.toNat_ofNat]
    omega
  generalize Scalar.muli x 16#32 = y at h16
  have h1 : (Scalar.maxsi 0#32 y).toNat < 2 ^ 31 := by have := two_mul_toNat_maxsi_zero_lt y; omega
  have h2 : (Scalar.minsi 736#32 (Scalar.maxsi 0#32 y)).toNat = min 736 (Scalar.maxsi 0#32 y).toNat :=
    toNat_minsi_of_lt 736#32 (Scalar.maxsi 0#32 y) (by decide) h1
  have h3 : 16 ∣ (Scalar.maxsi 0#32 y).toNat := by
    show 16 ∣ (IntOp.maxsi 0#32 y).toNat
    unfold IntOp.maxsi
    split
    · exact ⟨0, rfl⟩
    · exact h16
  rw [h2]
  omega

/-- The window's first row. -/
def base (w : BitVec 32) : ℕ := (k0_mult2 w).toNat

theorem off35 (w : BitVec 32) : k0_off35 w = ![base w, 0] := rfl

theorem base_le (w : BitVec 32) : base w ≤ 736 := (clamp_word _).1

theorem chk17_all (w : BitVec 32) : k0_chk17 w := by
  refine ⟨(clamp_word _).2, fun a => ?_⟩
  rw [off35]
  have h := base_le w
  fin_cases a
  · show base w + 288 ≤ 1024; omega
  · show 0 + 1024 ≤ 1024; omega

/-- The averaged rows of a batch as the buffer holds them. -/
def smoothOf (X1 : Vec F S1x1x2048 .f32) (X2 : Vec F S1x1x1024 .i32) (X3 : Vec F S1x1024x1024 .f32) : Vec F S1024x1024 .bf16 :=
  fun y => bfRow (rows X1 X2 X3 (y 0).val) (ix2 ⟨0, by decide⟩ (y 1))

/-- The block a point writes: the rows of the window its places name. -/
def outOf (X0 : Vec F S1x256x1 .i32) (M : Vec F S1024x1024 .bf16) (w : BitVec 32) : FVec F S1x256x1024 .f32 :=
  k0_pay29 w (k0_pay27 (F := F) w X0) k0_pay28
    (fun j => M ((Rect.unit (s := S1024x1024) (k0_off35 w) S288x1024.size (k0_off35_inb w (chk17_all w))).idx j))

/-- The count of boundaries before the next point. -/
def nextOf (X0 : Vec F S1x256x1 .i32) (w : BitVec 32) : BitVec 32 :=
  Scalar.addi w (extractAt ![0, 0, 0] (k0_pay1 (k0_pay26 (F := F) X0)) inpos_S1x1x1_p0_0_0)

section Body
variable (c : Dev nD) (i : grid0.Coords)
  (arg2 : Memref sig .tc .vmem S1x256x1 .i32) (harg2 : arg2.IsWhole) (arg3 : Memref sig .tc .smem S1x1x2048 .f32) (harg3 : arg3.IsWhole)
  (arg4 : Memref sig .tc .smem S1x1x1024 .i32) (harg4 : arg4.IsWhole) (arg5 : Memref sig .tc .vmem S1x1024x1024 .f32) (harg5 : arg5.IsWhole)
  (arg6 : Memref sig .tc .vmem S1x256x1024 .f32) (harg6 : arg6.IsWhole) (arg7 : Memref sig .tc .vmem S1024x1024 .bf16) (harg7 : arg7.IsWhole)
  (arg8 : Memref sig .tc .smem S1 .i32) (harg8 : arg8.IsWhole)
  (X0 : Vec F S1x256x1 .i32) (X1 : Vec F S1x1x2048 .f32) (X2 : Vec F S1x1x1024 .i32) (X3 : Vec F S1x1024x1024 .f32)

/-- What a point hands on: the blocks fetched as they were, its own block written, the rows of the batch and the count
for the next point. -/
def endOf (M : Vec F S1024x1024 .bf16) (w : BitVec 32) : sProp 𝕄 :=
  iprop(owns (c : Thread nD τ) arg2 fullShare X0 ∗ owns (c : Thread nD τ) arg3 fullShare X1 ∗ owns (c : Thread nD τ) arg4 fullShare X2 ∗ owns (c : Thread nD τ) arg5 fullShare X3
    ∗ owns (c : Thread nD τ) arg6 fullShare (outOf X0 M w) ∗ owns (c : Thread nD τ) arg7 fullShare M ∗ owns (c : Thread nD τ) arg8 fullShare (fun _ => nextOf X0 w))

theorem out_eq (g2 : arg2.view.ty.Contents (Elt F)) (g7 : arg7.view.ty.Contents (Elt F)) (w w' : BitVec 32) (h : w' = w)
    (inb : ∀ a, k0_off35 w' a + S288x1024.size a ≤ S1024x1024.size a) :
    k0_pay29 w' (k0_pay27 (F := F) w' (arg2.view.readAt (Elt F) (Rect.unit (s := S1x256x1) ![0, 0, 0] S1x256x1.size inb_S1x256x1_S1x256x1_0_0_0).toLoadRect g2)) k0_pay28
        (arg7.view.readAt (Elt F) (Rect.unit (s := S1024x1024) (k0_off35 w') S288x1024.size inb).toLoadRect g7)
      = outOf (arg2.view.read (Elt F) g2) (arg7.view.read (Elt F) g7) w := by
  subst h
  unfold outOf
  rw [View.readAt_full]
  rfl

theorem next_eq (g2 : arg2.view.ty.Contents (Elt F)) (w w' : BitVec 32) (h : w' = w) :
    Scalar.addi w' (extractAt ![0, 0, 0] (k0_pay1 (k0_pay26 (F := F) (arg2.view.readAt (Elt F) (Rect.unit (s := S1x256x1) ![0, 0, 0] S1x256x1.size inb_S1x256x1_S1x256x1_0_0_0).toLoadRect g2))) inpos_S1x1x1_p0_0_0)
      = nextOf (arg2.view.read (Elt F) g2) w := by
  subst h
  unfold nextOf
  rw [View.readAt_full]

theorem body_later (h : ¬ k0_cond1 i = 1#1) (M : Vec F S1024x1024 .bf16) (w : BitVec 32) :
    iprop(owns (c : Thread nD τ) arg2 fullShare X0 ∗ owns (c : Thread nD τ) arg3 fullShare X1 ∗ owns (c : Thread nD τ) arg4 fullShare X2 ∗ owns (c : Thread nD τ) arg5 fullShare X3
      ∗ (∃ X6, owns (c : Thread nD τ) arg6 fullShare X6) ∗ owns (c : Thread nD τ) arg7 fullShare M ∗ owns (c : Thread nD τ) arg8 fullShare (fun _ => w)) ⊢
    wp frame (wpE (defs₀ (F := F)) 𝒱₀ (c : Thread nD τ) none) Set.univ
      (cc0__body i arg2 harg2 arg3 harg3 arg4 harg4 arg5 harg5 arg6 harg6 arg7 harg7 arg8 harg8)
      (fun _ => endOf c arg2 arg3 arg4 arg5 arg6 arg7 arg8 X0 X1 X2 X3 M w) := by
  unfold endOf owns
  iintro ⟨⟨%g2, %e2, H2⟩, ⟨%g3, %e3, H3⟩, ⟨%g4, %e4, H4⟩, ⟨%g5, %e5, H5⟩, ⟨%X6, ⟨%g6, %e6, H6⟩⟩, ⟨%g7, %e7, H7⟩, ⟨%g8, %e8, H8⟩⟩
  subst e2 e3 e4 e5 e7
  simp only [Gen.cc0__body_eq_skeleton]
  sl_unfold [Gen.cc0__body_skel, Gen.k0_part7_skel, Gen.k0_part8_skel]
  sl_exec (disch := first | exact h | exact chk17_all _)
  have hw : body_later.sl.r c arg8 g8 = w := congrFun e8 _
  sl_step
  isplitl [H2]; · iexists g2; isplitr; · ipureintro; rfl
                  iexact H2
  isplitl [H3]; · iexists g3; isplitr; · ipureintro; rfl
                  iexact H3
  isplitl [H4]; · iexists g4; isplitr; · ipureintro; rfl
                  iexact H4
  isplitl [H5]; · iexists g5; isplitr; · ipureintro; rfl
                  iexact H5
  isplitl [H6]; · iexists _; isplitr; rotate_left
                  · iexact H6
                  · ipureintro
                    exact (View.read_writes_full _ _ _ _ _).trans (out_eq arg2 arg7 g2 g7 _ _ hw _)
  isplitl [H7]; · iexists _; isplitr; rotate_left
                  · iexact H7
                  · ipureintro; rfl
  iexists _; isplitr; rotate_left
  · iexact H8
  · ipureintro
    exact (View.read_writes_full _ _ _ _ _).trans (funext fun _ => next_eq arg2 g2 _ _ hw)

theorem body_first (h : k0_cond1 i = 1#1) (hX : ∀ x, (X2 x).toNat < 2048) (M : Vec F S1024x1024 .bf16) (hM : M = smoothOf X1 X2 X3)
    (w : BitVec 32) (hW : w = 0#32) :
    iprop(owns (c : Thread nD τ) arg2 fullShare X0 ∗ owns (c : Thread nD τ) arg3 fullShare X1 ∗ owns (c : Thread nD τ) arg4 fullShare X2 ∗ owns (c : Thread nD τ) arg5 fullShare X3
      ∗ (∃ X6, owns (c : Thread nD τ) arg6 fullShare X6) ∗ (∃ X7, owns (c : Thread nD τ) arg7 fullShare X7) ∗ (∃ X8, owns (c : Thread nD τ) arg8 fullShare X8)) ⊢
    wp frame (wpE (defs₀ (F := F)) 𝒱₀ (c : Thread nD τ) none) Set.univ
      (cc0__body i arg2 harg2 arg3 harg3 arg4 harg4 arg5 harg5 arg6 harg6 arg7 harg7 arg8 harg8)
      (fun _ => endOf c arg2 arg3 arg4 arg5 arg6 arg7 arg8 X0 X1 X2 X3 M w) := by
  subst hM hW
  unfold endOf owns
  iintro ⟨⟨%g2, %e2, H2⟩, ⟨%g3, %e3, H3⟩, ⟨%g4, %e4, H4⟩, ⟨%g5, %e5, H5⟩, ⟨%X6, ⟨%g6, %e6, H6⟩⟩, ⟨%X7, ⟨%g7, %e7, H7⟩⟩, ⟨%X8, ⟨%g8, %e8, H8⟩⟩⟩
  subst e2 e3 e4 e5
  simp only [Gen.cc0__body_eq_skeleton]
  sl_unfold [Gen.cc0__body_skel, Gen.k0_part7_skel, Gen.k0_part8_skel]
  have hb : before c arg7 (arg3.view.read (Elt F) g3) (arg4.view.read (Elt F) g4) (arg5.view.read (Elt F) g5) g7 0 (k0_pay23 (F := F)) :=
    ⟨fun y hy => absurd hy (by omega), fun h => absurd h (by omega)⟩
  sl_exec (disch := first | exact h | exact chk17_all _)
  have hm : arg7.view.read (Elt F) f7L0 = smoothOf (arg3.view.read (Elt F) g3) (arg4.view.read (Elt F) g4) (arg5.view.read (Elt F) g5) :=
    funext fun y => hL5.1 y (y 0).isLt
  sl_step
  isplitl [H2]; · iexists g2; isplitr; · ipureintro; rfl
                  iexact H2
  isplitl [H3]; · iexists g3; isplitr; · ipureintro; rfl
                  iexact H3
  isplitl [H4]; · iexists g4; isplitr; · ipureintro; rfl
                  iexact H4
  isplitl [H5]; · iexists g5; isplitr; · ipureintro; rfl
                  iexact H5
  isplitl [H6]; · iexists _; isplitr; rotate_left
                  · iexact H6
                  · ipureintro
                    refine (View.read_writes_full _ _ _ _ _).trans ?_
                    rw [← hm]
                    exact out_eq arg2 arg7 g2 f7L0 _ _ rfl _
  isplitl [H7]; · iexists _; isplitr; rotate_left
                  · iexact H7
                  · ipureintro; exact hm
  iexists _; isplitr; rotate_left
  · iexact H8
  · ipureintro
    exact (View.read_writes_full _ _ _ _ _).trans (funext fun _ => next_eq arg2 g2 _ _ rfl)

end Body

end Cert.Proof
end
-- ==== Proof.Point.lean ====
/- The body at every point of the grid, the state carried from point to point, and the launch. -/
module

public import proofs.«01_k».proof.Defs
public import proofs.«01_k».proof.Proof.Body
public import Idealize.ShloMosaic.Lib.Pipeline.FrameBody

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point of the grid by its number. -/
def pt (n : ℕ) : Fin cfg0.N := ⟨n % 64, by show n % 64 < grid0.N; rw [N_0]; omega⟩

theorem pt_val (t : Fin cfg0.N) : pt t.val = t := Fin.ext (Nat.mod_eq_of_lt (by have : t.val < grid0.N := t.isLt; rw [N_0] at this; omega))

/-- The averaged rows of the batch point `n` belongs to. -/
def rowsAt (c : Dev nD) (n : ℕ) : Vec F S1024x1024 .bf16 :=
  smoothOf (iblk m c 1 (pt (8 * (n / 8)))) (iblk m c 2 (pt (8 * (n / 8)))) (iblk m c 3 (pt (8 * (n / 8))))

/-- The boundaries of the batch counted before point `n`. -/
def countAt (c : Dev nD) : ℕ → BitVec 32
  | 0 => 0#32
  | n + 1 => if (n + 1) % 8 = 0 then 0#32 else nextOf (F := F) (iblk m c 0 (pt n)) (countAt c n)

theorem countAt_first (c : Dev nD) {n : ℕ} (h : n % 8 = 0) : countAt m c n = 0#32 := by
  cases n with
  | zero => rfl
  | succ n => exact if_pos h

theorem countAt_next (c : Dev nD) {n : ℕ} (h : (n + 1) % 8 ≠ 0) : countAt m c (n + 1) = nextOf (F := F) (iblk m c 0 (pt n)) (countAt m c n) := if_neg h

theorem rowsAt_next (c : Dev nD) {n : ℕ} (h : (n + 1) % 8 ≠ 0) : rowsAt m c (n + 1) = rowsAt m c n := by
  unfold rowsAt
  rw [show (n + 1) / 8 = n / 8 by omega]

theorem rowsAt_first (c : Dev nD) (t : Fin cfg0.N) (h : t.val % 8 = 0) : rowsAt m c t.val = smoothOf (iblk m c 1 t) (iblk m c 2 t) (iblk m c 3 t) := by
  unfold rowsAt
  rw [show 8 * (t.val / 8) = t.val by omega, pt_val]

/-- The two scratch buffers. -/
abbrev sc0 : Memref sig .tc .vmem S1024x1024 .bf16 := Memref.whole cc0_scratch0
abbrev sc1 : Memref sig .tc .smem S1 .i32 := Memref.whole cc0_scratch1

/-- What is held before point `n`: within a batch, its averaged rows and its count so far. -/
def held (c : Dev nD) (n : ℕ) : sProp 𝕄 :=
  iprop(((∃ X7, ⌜n % 8 ≠ 0 → X7 = rowsAt m c n⌝ ∗ owns (c : Thread nD τ) sc0 fullShare X7)
      ∗ (∃ X8, ⌜n % 8 ≠ 0 → X8 = fun _ => countAt m c n⌝ ∗ owns (c : Thread nD τ) sc1 fullShare X8))
    ∗ ∃ r, prngReg c r)

def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => outOf (iblk m c 0 t) (rowsAt m c t.val) (countAt m c t.val)
    | ⟨_ + 5, h⟩ => absurd h (Nat.not_lt.2 (Nat.le_add_left _ _))
  Φ t := held m c t.val
  q _ := fullShare
  owed _ := 0

theorem A_eq (c : Dev nD) (w : Fin cfg0.W) : (dats m 0 c).A w = V m c (Pipeline.arrRef spec0 w) := by dsimp only [dats]

theorem ΦA_eq (c : Dev nD) : (Pipeline.ΦA spec0 c : sProp 𝕄) = iprop(((∃ X7, owns (c : Thread nD τ) sc0 fullShare X7) ∗ (∃ X8, owns (c : Thread nD τ) sc1 fullShare X8)) ∗ ∃ r, prngReg c r) := by
  unfold Pipeline.ΦA
  rw [scopedRest0_eq]
  simp only [sc0, sc1, owns_whole]
  rfl

theorem held_any (c : Dev nD) (n : ℕ) : held m c n ⊢ Pipeline.ΦA spec0 c := by
  rw [ΦA_eq]
  unfold held
  iintro ⟨⟨⟨%X7, -, H7⟩, ⟨%X8, -, H8⟩⟩, Hg⟩
  isplitl [H7 H8]
  · isplitl [H7]
    · iexists X7; iexact H7
    · iexists X8; iexact H8
  · iexact Hg

theorem any_held (c : Dev nD) (n : ℕ) (h : n % 8 = 0) : Pipeline.ΦA spec0 c ⊢ held m c n := by
  rw [ΦA_eq]
  unfold held
  iintro ⟨⟨⟨%X7, H7⟩, ⟨%X8, H8⟩⟩, Hg⟩
  isplitl [H7 H8]
  · isplitl [H7]
    · iexists X7; isplitr; · ipureintro; exact fun h' => absurd h h'
      iexact H7
    · iexists X8; isplitr; · ipureintro; exact fun h' => absurd h h'
      iexact H8
  · iexact Hg

/-- The batch's first point is where the second coordinate is zero. -/
theorem cond1_iff : ∀ t : Fin grid0.N, (k0_cond1 (grid0.coords t) = 1#1) ↔ t.val % 8 = 0 := by
  decide

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The blocks and scratch as the body leaves them at a point are what the next point finds. -/
theorem post_of_end (c : Dev nD) (t : Fin cfg0.N) :
    iprop(endOf c (st0_0 t) (st0_1 t) (st0_2 t) (st0_3 t) (st0_4 t) sc0 sc1 (iblk m c 0 t) (iblk m c 1 t) (iblk m c 2 t) (iblk m c 3 t)
        (rowsAt m c t.val) (countAt m c t.val) ∗ (∃ r, prngReg c r) ∗ (dats m 0 c).owesAt () t.castSucc) ⊢ bodyPost m c t := by
  unfold endOf bodyPost
  rw [show (dats m 0 c).owesAt () t.succ = (dats m 0 c).owesAt () t.castSucc from rfl,
    show (dats m 0 c).Φ t.succ = held m c (t.val + 1) from rfl]
  unfold held
  iintro ⟨⟨H0, H1, H2, H3, H4, H7, H8⟩, Hg, HO⟩
  isplitl [H7 H8 Hg]
  · isplitl [H7 H8]
    · isplitl [H7]
      · iexists (rowsAt m c t.val); isplitr; · ipureintro; exact fun h => (rowsAt_next m c h).symm
        iexact H7
      · iexists (fun _ => nextOf (F := F) (iblk m c 0 t) (countAt m c t.val)); isplitr
        · ipureintro; exact fun h => by rw [countAt_next m c h, pt_val]
        iexact H8
    · iexact Hg
  isplitl [HO]; · iexact HO
  isplitl [H0]; · iexact H0
  isplitl [H1]; · iexact H1
  isplitl [H2]; · iexact H2
  isplitl [H3]; · iexact H3
  iexact H4

theorem sound_body (hX : ∀ (c : Dev nD) (t : Fin cfg0.N) x, (iblk m c 2 t x : BitVec 32).toNat < 2048) (c : Dev nD) (t : Fin cfg0.N) :
    bodyPre m c t ⊢ wp frame (wpE (defs₀ (F := F)) 𝒱₀ (c : Thread nD τ) none) Set.univ (bodyAt0 t) (fun _ => bodyPost m c t) := by
  unfold bodyPre bodyAt0
  rw [show (dats m 0 c).Φ t.castSucc = held m c t.val from rfl]
  simp only [before0_0_of m (dats m 0 c) (A_eq m c 0) (fun _ => rfl), before0_1_of m (dats m 0 c) (A_eq m c 1) (fun _ => rfl),
    before0_2_of m (dats m 0 c) (A_eq m c 2) (fun _ => rfl), before0_3_of m (dats m 0 c) (A_eq m c 3) (fun _ => rfl)]
  unfold held
  iintro ⟨⟨⟨⟨%X7, %h7, H7⟩, ⟨%X8, %h8, H8⟩⟩, Hg⟩, HO, ⟨%d0, H0⟩, ⟨%d1, H1⟩, ⟨%d2, H2⟩, ⟨%d3, H3⟩, ⟨%d4, H4⟩⟩
  iapply (wp_wand_r Idealize.ShloMosaic.frame (wpE (defs₀ (F := F)) 𝒱₀ (c : Thread nD τ) none) Set.univ)
  by_cases ht : t.val % 8 = 0
  · isplitl [H0 H1 H2 H3 H4 H7 H8]
    · iapply (body_first c (grid0.coords t) (st0_0 t) _ (st0_1 t) _ (st0_2 t) _ (st0_3 t) _ (st0_4 t) _ sc0 _ sc1 _
        (iblk m c 0 t) (iblk m c 1 t) (iblk m c 2 t) (iblk m c 3 t) ((cond1_iff t).2 ht) (hX c t)
        (rowsAt m c t.val) (rowsAt_first m c t ht) (countAt m c t.val) (countAt_first m c ht))
      isplitl [H0]; · iexact H0
      isplitl [H1]; · iexact H1
      isplitl [H2]; · iexact H2
      isplitl [H3]; · iexact H3
      isplitl [H4]; · iexists _; iexact H4
      isplitl [H7]; · iexists _; iexact H7
      iexists _; iexact H8
    · iintro %u He
      iapply (post_of_end m c t)
      isplitl [He]; · iexact He
      isplitl [Hg]; · iexact Hg
      iexact HO
  · obtain rfl := h7 ht
    obtain rfl := h8 ht
    isplitl [H0 H1 H2 H3 H4 H7 H8]
    · iapply (body_later c (grid0.coords t) (st0_0 t) _ (st0_1 t) _ (st0_2 t) _ (st0_3 t) _ (st0_4 t) _ sc0 _ sc1 _
        (iblk m c 0 t) (iblk m c 1 t) (iblk m c 2 t) (iblk m c 3 t) (fun h => ht ((cond1_iff t).1 h)) (rowsAt m c t.val) (countAt m c t.val))
      isplitl [H0]; · iexact H0
      isplitl [H1]; · iexact H1
      isplitl [H2]; · iexact H2
      isplitl [H3]; · iexact H3
      isplitl [H4]; · iexists _; iexact H4
      isplitl [H7]; · iexact H7
      iexact H8
    · iintro %u He
      iapply (post_of_end m c t)
      isplitl [He]; · iexact He
      isplitl [Hg]; · iexact Hg
      iexact HO

theorem defs₀_row (t : Fin cfg0.N) : defs₀ (F := F) .tc cfg0.body (cfg0.bodyArgs t (cfg0.slots t)) = bodyAt0 t := by
  unfold defs₀; rw [Defs.onTc_tc]

theorem body_obligation (hX : ∀ (c : Dev nD) (t : Fin cfg0.N) x, (iblk m c 2 t x : BitVec 32).toNat < 2048) (c : Dev nD) :
    BodyObligation (dats (F := F) m 0 c) (defs₀ (F := F)) 𝒱₀ () Set.univ := fun t => by
  rw [bigSep_W0, bigSep_W0, defs₀_row]
  exact triple_restated (sound_body m hX c t) rfl .rfl fun _ => .rfl

set_option backward.isDefEq.respectTransparency.types false in
theorem run_main (hX : ∀ (c : Dev nD) (t : Fin cfg0.N) x, (iblk m c 2 t x : BitVec 32).toNat < 2048) :
    θ_run defs (onTc (τ := τ) (main (F := F))) (s₀ m ρ)
      (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m hX c).loose) (hshare := fun c => (dats m 0 c).share_full fun _ => rfl)
    (howed := fun _ _ => rfl) (V := V m) (hmain := hmain m 𝒱₀) (hA := A_eq m)
    (hin := fun c => any_held m c 0 rfl) (hout := fun c => held_any m c _)

end Cert.Proof
end
-- ==== Proof.Reads.lean ====
/- The blocks the kernel is handed, read off the arguments. -/
module

public import proofs.«01_k».proof.Proof.Point
public import Idealize.ShloMosaic.Lib.Pipeline.ValueKit
public import Idealize.ShloMosaic.Lib.Claim

@[expose] public section

noncomputable section

namespace Cert.Proof

open Cert.KernelIdeal Cert.KernelIdeal.Gen
open Idealize.ShloMosaic Idealize.ShloMosaic.TcCoe Idealize.ShloMosaic.Tactic
open Idealize.SL Idealize.SL.Sem

variable {F : FTy → Type} [FloatOps F]

variable (m : (ℓ : Loc nD τ sig) → Buf (Elt F) ℓ) (ρ : Dev nD → PrngReg)

theorem index_all : ∀ t : Fin grid0.N, win0_0.index t = ![t.val / 8, t.val % 8, 0] ∧ win0_1.index t = ![t.val / 8, 0, 0] ∧ win0_2.index t = ![t.val / 8, 0, 0]
    ∧ win0_3.index t = ![t.val / 8, 0, 0] ∧ win0_4.index t = ![t.val / 8, t.val % 8, 0] := by
  decide

theorem pt_lt (t : Fin cfg0.N) : t.val < 64 := by have : t.val < grid0.N := t.isLt; rw [N_0] at this; exact this

/-- The batch of a point. -/
def bt (t : Fin cfg0.N) : Fin 8 := ⟨t.val / 8, by have := pt_lt t; omega⟩

theorem V3_apply (c : Dev nD) (z : S8x1x1024.Idx) : V m c main_v3 z = m ((c.tc : Thread nD τ).loc main_arg3) (ix2 (z 0) (z 2)) := by
  entry_read
  pointwise

theorem V2_apply (c : Dev nD) (z : S8x1x2048.Idx) : V m c main_v2 z = m ((c.tc : Thread nD τ).loc main_arg2) (ix2 (z 0) (z 2)) := by
  entry_read
  pointwise

theorem V1_apply (c : Dev nD) (z : S8x2048x1.Idx) :
    V m c main_v1 z = (m ((c.tc : Thread nD τ).loc main_arg1) (ix2 (z 0) (z 1)) : BitVec 1).setWidth 32 := by
  entry_read
  pointwise

theorem iblk0_apply (c : Dev nD) (t : Fin cfg0.N) (y : S1x256x1.Idx) :
    iblk m c 0 t y = (m ((c.tc : Thread nD τ).loc main_arg1)
      (ix2 (bt t) ⟨t.val % 8 * 256 + (y 1).val, by have := (y 1).isLt; simp at this; omega⟩) : BitVec 1).setWidth 32 := by
  have h := (index_all t).1
  have hb : (bt t).val = t.val / 8 := rfl
  refine Eq.trans (b := V m c main_v1 ((win0_0.blk t).view.emb y)) rfl ?_
  rw [V1_apply]
  refine congrArg (fun z => (m ((c.tc : Thread nD τ).loc main_arg1) z : BitVec 1).setWidth 32) (a₂ := ix2 (bt t) ⟨t.val % 8 * 256 + (y 1).val, by have := (y 1).isLt; simp at this; omega⟩) ?_
  blk_ext [h, hb]

theorem iblk1_apply (c : Dev nD) (t : Fin cfg0.N) (y : S1x1x2048.Idx) :
    iblk m c 1 t y = m ((c.tc : Thread nD τ).loc main_arg2) (ix2 (bt t) (y 2)) := by
  have h := (index_all t).2.1
  have hb : (bt t).val = t.val / 8 := rfl
  refine Eq.trans (b := V m c main_v2 ((win0_1.blk t).view.emb y)) rfl ?_
  rw [V2_apply]
  blk_ext [h, hb]

theorem iblk2_apply (c : Dev nD) (t : Fin cfg0.N) (y : S1x1x1024.Idx) :
    iblk m c 2 t y = m ((c.tc : Thread nD τ).loc main_arg3) (ix2 (bt t) (y 2)) := by
  have h := (index_all t).2.2.1
  have hb : (bt t).val = t.val / 8 := rfl
  refine Eq.trans (b := V m c main_v3 ((win0_2.blk t).view.emb y)) rfl ?_
  rw [V3_apply]
  blk_ext [h, hb]

theorem iblk3_apply (c : Dev nD) (t : Fin cfg0.N) (y : S1x1024x1024.Idx) :
    iblk m c 3 t y = m ((c.tc : Thread nD τ).loc main_arg0) (ix3 (bt t) (y 1) (y 2)) := by
  have h := (index_all t).2.2.2.1
  have hb : (bt t).val = t.val / 8 := rfl
  blk_ext [iblk, V, h, hb]

end Cert.Proof
end
-- ==== Proof.Frames.lean ====
/- The runs of the two programs with their arguments unchanged and their counters back at zero: one proof over any
   float family, read at the two. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Reads
public import Idealize.ShloMosaic.Lib.Pipeline.Regions
public import Idealize.ShloMosaic.Lib.WordCmp

@[expose] public section

noncomputable section

namespace Cert.Proof

open Cert.KernelIdeal Cert.KernelIdeal.Gen
open Idealize.ShloMosaic Idealize.ShloMosaic.TcCoe Idealize.ShloMosaic.Tactic
open Idealize.SL Idealize.SL.Sem

instance pre_facts : Cert.Pre_in_range.Facts := ⟨by decide⟩

variable {F : FTy → Type} [FloatOps F]

/-- The precondition at one word: it lies under 2048. -/
theorem word_lt {a0 : FVec F Cert.Pre_in_range.S8x1024x1024 .f32} {a1 : IVec Cert.Pre_in_range.S8x2048 1}
    {a2 : FVec F Cert.Pre_in_range.S8x2048 .f32} {a3 : IVec Cert.Pre_in_range.S8x1024 32}
    (h : Cert.Pre_in_range.fn a0 a1 a2 a3 = fun _ => 1#1) (y : Cert.Pre_in_range.S8x1024.Idx) : (a3 y).toNat < 2048 := by
  have e := congrFun h y
  simp only [Cert.Pre_in_range.fn, andi, cmpi, broadcastInDim, constantI, IntOp.cmpi, Idealize.ShloMosaic.WordCmp.andi_ofBool, Idealize.ShloMosaic.WordCmp.ofBool_eq_one_iff, Bool.and_eq_true] at e
  simp only [BitVec.sle, BitVec.slt, decide_eq_true_eq, BitVec.toInt, BitVec.toNat_ofNat] at e
  omega

/-- Over any float family: from a memory meeting the precondition the program runs, its arguments end unchanged and every
    counter reads zero. -/
def QFrame (F : FTy → Type) [FloatOps F] [hKernel : Cert.KernelIdeal.Facts] [hPre_in_range : Cert.Pre_in_range.Facts] : Prop :=
  ∀ (m : (ℓ : Loc Cert.KernelIdeal.nD Cert.KernelIdeal.τ Cert.KernelIdeal.sig) → Buf (Elt F) ℓ) (g : Dev Cert.KernelIdeal.nD → PrngReg),
    (∀ c : Dev Cert.KernelIdeal.nD, Cert.Pre_in_range.fn (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) = fun _ => 1#1) →
      θ_run (Cert.KernelIdeal.defs (F := F)) (onTc (τ := Cert.KernelIdeal.τ) (Cert.KernelIdeal.main (F := F))) ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0)

theorem words_lt (m : (ℓ : Loc nD τ sig) → Buf (Elt F) ℓ)
    (h : ∀ c : Dev nD, Cert.Pre_in_range.fn (F := F) (m ((c.tc : Thread nD τ).loc main_arg0)) (m ((c.tc : Thread nD τ).loc main_arg1)) (m ((c.tc : Thread nD τ).loc main_arg2)) (m ((c.tc : Thread nD τ).loc main_arg3)) = fun _ => 1#1)
    (c : Dev nD) (t : Fin cfg0.N) (x : S1x1x1024.Idx) : (iblk m c 2 t x : BitVec 32).toNat < 2048 := by
  rw [iblk2_apply]
  exact word_lt (h c) _

theorem qframe : QFrame F := fun m g h =>
  (θ_run defs _ _).mono (fun _ hr => ⟨fun c =>
      ⟨((hr.1 c).1 3).trans (((dats m 0 c).arrAt_in 3 rfl _).trans ((A_eq m c 3).trans (V_main_arg0 m c))),
      ((hr.1 c).2 main_arg1 (Pipeline.mem_restRefs_of main_arg1 (by decide) (by decide))).trans (V_main_arg1 m c),
      ((hr.1 c).2 main_arg2 (Pipeline.mem_restRefs_of main_arg2 (by decide) (by decide))).trans (V_main_arg2 m c),
      ((hr.1 c).2 main_arg3 (Pipeline.mem_restRefs_of main_arg3 (by decide) (by decide))).trans (V_main_arg3 m c)⟩, hr.2⟩)
    (run_main m g (words_lt m h))

theorem bits_eq : Cert.quiescent_Kernel = QFrame Bits := by chain_rfl

theorem ideal_eq : Cert.quiescent_KernelIdeal = QFrame Ideal := by chain_rfl

theorem frame_p : Cert.quiescent_Kernel := bits_eq.mpr qframe

theorem frame_pi : Cert.quiescent_KernelIdeal := ideal_eq.mpr qframe

theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_ri_pre : Cert.quiescent_ReferenceIdeal_pre_in_range := fun m g _ => frame_ri m g trivial

end Cert.Proof
end
-- ==== Proof.Scan.lean ====
/- The tree of a prefix scan over pairs (decay, value), read row by row: one lemma for a level going down (neighbours
   combined) and one for a level coming back (even rows from the level below), at any row count. -/
module

public import Idealize.ShloMosaic.Lib.Pipeline.ValueKit
public import Idealize.ShloMosaic.Lib.KernelVsHost
public import Idealize.ShloMosaic.PureOps.Ideal.Laws

@[expose] public section

noncomputable section

namespace Cert.Proof

open Idealize.ShloMosaic Idealize.ShloMosaic.Tactic

/-- Two stretches of rows composed, the left one first. -/
def cmb (a b : EReal × EReal) : EReal × EReal := (a.1 * b.1, b.2 + b.1 * a.2)

/-- The composition of the rows up to and with row `i`, taken one after the other. -/
def upTo (f : ℕ → EReal × EReal) : ℕ → EReal × EReal
  | 0 => f 0
  | i + 1 => cmb (upTo f i) (f (i + 1))

/-- A decay that multiplies through sums. -/
def Mild (a : EReal × EReal) : Prop := 0 ≤ a.1 ∧ a.1 ≠ ⊤

/-- Neighbouring rows composed. -/
def pairs (f : ℕ → EReal × EReal) (i : ℕ) : EReal × EReal := cmb (f (2 * i)) (f (2 * i + 1))

theorem Mild.cmb {a b : EReal × EReal} (ha : Mild a) (hb : Mild b) : Mild (cmb a b) :=
  ⟨mul_nonneg ha.1 hb.1, fun h => by
    have ha' : a.1 ≠ ⊥ := fun e => absurd (e ▸ ha.1) (by simp)
    have hb' : b.1 ≠ ⊥ := fun e => absurd (e ▸ hb.1) (by simp)
    have h : a.1 * b.1 = ⊤ := h
    lift a.1 to ℝ using ⟨ha.2, ha'⟩ with x
    lift b.1 to ℝ using ⟨hb.2, hb'⟩ with y
    rw [← EReal.coe_mul] at h
    exact EReal.coe_ne_top _ h⟩

theorem cmb_assoc {a b c : EReal × EReal} (hc : Mild c) : cmb (cmb a b) c = cmb a (cmb b c) := by
  unfold cmb
  refine Prod.ext (mul_assoc _ _ _) ?_
  show c.2 + c.1 * (b.2 + b.1 * a.2) = c.2 + c.1 * b.2 + b.1 * c.1 * a.2
  rw [EReal.left_distrib_of_nonneg_of_ne_top hc.1 hc.2, ← add_assoc, ← mul_assoc, mul_comm c.1 b.1]

theorem pairs_mild {f : ℕ → EReal × EReal} (hf : ∀ i, Mild (f i)) (i : ℕ) : Mild (pairs f i) := (hf _).cmb (hf _)

theorem upTo_pairs {f : ℕ → EReal × EReal} (hf : ∀ i, Mild (f i)) : ∀ i, upTo (pairs f) i = upTo f (2 * i + 1)
  | 0 => rfl
  | i + 1 => by
    have e : 2 * (i + 1) + 1 = (2 * i + 1) + 1 + 1 := by omega
    rw [e]
    show cmb (upTo (pairs f) i) (cmb (f (2 * i + 1 + 1)) (f (2 * i + 1 + 1 + 1))) = cmb (cmb (upTo f (2 * i + 1)) _) _
    rw [upTo_pairs hf i, cmb_assoc (hf _)]

/-- `n` rows of eight sheets hold the decays and the values of `f`. -/
def Holds (n : ℕ) (f : Fin 8 → Fin 1024 → ℕ → EReal × EReal) (D W : FVec Ideal ⟨3, ![8, n, 1024]⟩ .f32) : Prop :=
  ∀ (b : Fin 8) (i : Fin n) (k : Fin 1024), D (ix3 b i k) = (f b k i.val).1 ∧ W (ix3 b i k) = (f b k i.val).2

theorem Holds.at {n : ℕ} {f : Fin 8 → Fin 1024 → ℕ → EReal × EReal} {D W : FVec Ideal ⟨3, ![8, n, 1024]⟩ .f32} (h : Holds n f D W)
    (b : Fin 8) (k : Fin 1024) {i : ℕ} (hi : i < n) {j : ℕ} (e : i = j) : D (ix3 b ⟨i, hi⟩ k) = (f b k j).1 ∧ W (ix3 b ⟨i, hi⟩ k) = (f b k j).2 := by
  subst e; exact h b ⟨i, hi⟩ k

theorem row_lt {n h o : ℕ} (hs : (⟨3, ![8, n, 1024]⟩ : Shape).SlicesBy ![0, o, 0] ![1, 2, 1] ⟨3, ![8, h, 1024]⟩) (i : Fin h) :
    o + 2 * i.val < n := by
  have := (hs.2 1).2
  have hi := i.isLt
  simp at this
  omega

theorem halve_row {n h o : ℕ} (x : FVec Ideal ⟨3, ![8, n, 1024]⟩ .f32)
    (hs : (⟨3, ![8, n, 1024]⟩ : Shape).SlicesBy ![0, o, 0] ![1, 2, 1] ⟨3, ![8, h, 1024]⟩) (b : Fin 8) (i : Fin h) (k : Fin 1024) :
    Host.slice ⟨3, ![8, h, 1024]⟩ ![0, o, 0] ![1, 2, 1] x hs (ix3 b i k) = x (ix3 b ⟨o + 2 * i.val, row_lt hs i⟩ k) := by
  refine congrArg x (funext fun a => ?_)
  match a with
  | ⟨0, _⟩ => exact Fin.ext (by show 0 + 1 * b.val = b.val; omega)
  | ⟨1, _⟩ => rfl
  | ⟨2, _⟩ => exact Fin.ext (by show 0 + 1 * k.val = k.val; omega)

/-- Going down: the even rows composed with the odd ones. -/
theorem Holds.down {n h : ℕ} {f : Fin 8 → Fin 1024 → ℕ → EReal × EReal} {D W : FVec Ideal ⟨3, ![8, n, 1024]⟩ .f32}
    (H : Holds n f D W)
    (h0 : (⟨3, ![8, n, 1024]⟩ : Shape).SlicesBy ![0, 0, 0] ![1, 2, 1] ⟨3, ![8, h, 1024]⟩)
    (h1 : (⟨3, ![8, n, 1024]⟩ : Shape).SlicesBy ![0, 1, 0] ![1, 2, 1] ⟨3, ![8, h, 1024]⟩) :
    Holds h (fun b k => pairs (f b k))
      (mulf (Host.slice ⟨3, ![8, h, 1024]⟩ ![0, 0, 0] ![1, 2, 1] D h0) (Host.slice ⟨3, ![8, h, 1024]⟩ ![0, 1, 0] ![1, 2, 1] D h1))
      (addf (Host.slice ⟨3, ![8, h, 1024]⟩ ![0, 1, 0] ![1, 2, 1] W h1)
        (mulf (Host.slice ⟨3, ![8, h, 1024]⟩ ![0, 1, 0] ![1, 2, 1] D h1) (Host.slice ⟨3, ![8, h, 1024]⟩ ![0, 0, 0] ![1, 2, 1] W h0))) := by
  intro b i k
  have e0 := H.at b k (row_lt h0 i) (j := 2 * i.val) (by omega)
  have e1 := H.at b k (row_lt h1 i) (j := 2 * i.val + 1) (by omega)
  refine ⟨?_, ?_⟩
  · show (Host.slice ⟨3, ![8, h, 1024]⟩ ![0, 0, 0] ![1, 2, 1] D h0 (ix3 b i k) : EReal) * Host.slice ⟨3, ![8, h, 1024]⟩ ![0, 1, 0] ![1, 2, 1] D h1 (ix3 b i k) = _
    rw [halve_row, halve_row, e0.1, e1.1]; rfl
  · show (Host.slice ⟨3, ![8, h, 1024]⟩ ![0, 1, 0] ![1, 2, 1] W h1 (ix3 b i k) : EReal)
      + Host.slice ⟨3, ![8, h, 1024]⟩ ![0, 1, 0] ![1, 2, 1] D h1 (ix3 b i k) * Host.slice ⟨3, ![8, h, 1024]⟩ ![0, 0, 0] ![1, 2, 1] W h0 (ix3 b i k) = _
    rw [halve_row, halve_row, halve_row, e1.1, e1.2, e0.2]; rfl

/-- One row is its own composition. -/
theorem Holds.one {f : Fin 8 → Fin 1024 → ℕ → EReal × EReal} {D W : FVec Ideal ⟨3, ![8, 1, 1024]⟩ .f32} (H : Holds 1 f D W) :
    Holds 1 (fun b k => upTo (f b k)) D W := by
  intro b i k
  have := H b i k
  obtain ⟨i, hi⟩ := i
  obtain rfl : i = 0 := by omega
  exact this

/-- The padding value. -/
abbrev zero : FVec Ideal ⟨0, ![]⟩ .f32 := constant ⟨0, ![]⟩ .f32 0x00000000#32

theorem zero_eq (j : (⟨0, ![]⟩ : Shape).Idx) : zero j = (0 : EReal) := Ideal.ofBits_zero_f32

/-- The even rows filled in by `E`, the odd ones by `O`. -/
def weave {n h : ℕ} (E O : FVec Ideal ⟨3, ![8, h, 1024]⟩ .f32) (z z' : FVec Ideal ⟨0, ![]⟩ .f32)
    (p0 : (⟨3, ![8, h, 1024]⟩ : Shape).Pads ![0, 0, 0] ![0, 1, 0] ![0, 1, 0] ⟨3, ![8, n, 1024]⟩)
    (p1 : (⟨3, ![8, h, 1024]⟩ : Shape).Pads ![0, 1, 0] ![0, 0, 0] ![0, 1, 0] ⟨3, ![8, n, 1024]⟩) (hu : 0 < (⟨0, ![]⟩ : Shape).numel) :
    FVec Ideal ⟨3, ![8, n, 1024]⟩ .f32 :=
  addf (pad ⟨3, ![8, n, 1024]⟩ ![0, 0, 0] ![0, 1, 0] ![0, 1, 0] E z p0 hu) (pad ⟨3, ![8, n, 1024]⟩ ![0, 1, 0] ![0, 0, 0] ![0, 1, 0] O z' p1 hu)

theorem weave_even {n h : ℕ} {E O : FVec Ideal ⟨3, ![8, h, 1024]⟩ .f32} {z z' : FVec Ideal ⟨0, ![]⟩ .f32}
    {p0 : (⟨3, ![8, h, 1024]⟩ : Shape).Pads ![0, 0, 0] ![0, 1, 0] ![0, 1, 0] ⟨3, ![8, n, 1024]⟩}
    {p1 : (⟨3, ![8, h, 1024]⟩ : Shape).Pads ![0, 1, 0] ![0, 0, 0] ![0, 1, 0] ⟨3, ![8, n, 1024]⟩} {hu : 0 < (⟨0, ![]⟩ : Shape).numel}
    (hz : ∀ j, z' j = (0 : EReal)) (b : Fin 8) (k : Fin 1024) (j : Fin h) (i : Fin n) (e : i.val = 2 * j.val) :
    weave E O z z' p0 p1 hu (ix3 b i k) = E (ix3 b j k) := by
  have e0 := pad_apply_of_inside ![0, 0, 0] ![0, 1, 0] ![0, 1, 0] E z p0 hu (ix3 b i k) (ix3 b j k) (fun a => by
    match a with
    | ⟨0, _⟩ => show b.val = 0 + b.val * 1; omega
    | ⟨1, _⟩ => show i.val = 0 + j.val * 2; omega
    | ⟨2, _⟩ => show k.val = 0 + k.val * 1; omega)
  have e1 := pad_apply_of_not_inside ![0, 1, 0] ![0, 0, 0] ![0, 1, 0] O z' p1 hu (ix3 b i k) 1 (by
    show ¬ (1 ≤ i.val ∧ (i.val - 1) % 2 = 0 ∧ _)
    omega)
  show (pad _ _ _ _ E z p0 hu (ix3 b i k) : EReal) + pad _ _ _ _ O z' p1 hu (ix3 b i k) = _
  rw [e0, e1, hz, add_zero]

theorem weave_odd {n h : ℕ} {E O : FVec Ideal ⟨3, ![8, h, 1024]⟩ .f32} {z z' : FVec Ideal ⟨0, ![]⟩ .f32}
    {p0 : (⟨3, ![8, h, 1024]⟩ : Shape).Pads ![0, 0, 0] ![0, 1, 0] ![0, 1, 0] ⟨3, ![8, n, 1024]⟩}
    {p1 : (⟨3, ![8, h, 1024]⟩ : Shape).Pads ![0, 1, 0] ![0, 0, 0] ![0, 1, 0] ⟨3, ![8, n, 1024]⟩} {hu : 0 < (⟨0, ![]⟩ : Shape).numel}
    (hz : ∀ j, z j = (0 : EReal)) (b : Fin 8) (k : Fin 1024) (j : Fin h) (i : Fin n) (e : i.val = 2 * j.val + 1) :
    weave E O z z' p0 p1 hu (ix3 b i k) = O (ix3 b j k) := by
  have e0 := pad_apply_of_not_inside ![0, 0, 0] ![0, 1, 0] ![0, 1, 0] E z p0 hu (ix3 b i k) 1 (by
    show ¬ (0 ≤ i.val ∧ (i.val - 0) % 2 = 0 ∧ _)
    omega)
  have e1 := pad_apply_of_inside ![0, 1, 0] ![0, 0, 0] ![0, 1, 0] O z' p1 hu (ix3 b i k) (ix3 b j k) (fun a => by
    match a with
    | ⟨0, _⟩ => show b.val = 0 + b.val * 1; omega
    | ⟨1, _⟩ => show i.val = 1 + j.val * 2; omega
    | ⟨2, _⟩ => show k.val = 0 + k.val * 1; omega)
  show (pad _ _ _ _ E z p0 hu (ix3 b i k) : EReal) + pad _ _ _ _ O z' p1 hu (ix3 b i k) = _
  rw [e0, e1, hz, zero_add]

/-- The first row of `x` before the rows of `y`. -/
def headed {n h q : ℕ} (x : FVec Ideal ⟨3, ![8, n, 1024]⟩ .f32) (y : FVec Ideal ⟨3, ![8, q, 1024]⟩ .f32)
    (s : (⟨3, ![8, n, 1024]⟩ : Shape).Slices ![0, 0, 0] ⟨3, ![8, 1, 1024]⟩)
    (c : Shape.Concatenates [⟨3, ![8, 1, 1024]⟩, ⟨3, ![8, q, 1024]⟩] ⟨3, ![8, h, 1024]⟩ 1) : FVec Ideal ⟨3, ![8, h, 1024]⟩ .f32 :=
  concatenate ⟨3, ![8, h, 1024]⟩ 1 [⟨⟨3, ![8, 1, 1024]⟩, extractStridedSlice ⟨3, ![8, 1, 1024]⟩ ![0, 0, 0] x s⟩, ⟨⟨3, ![8, q, 1024]⟩, y⟩] c

theorem headed_zero {n h q : ℕ} {x : FVec Ideal ⟨3, ![8, n, 1024]⟩ .f32} {y : FVec Ideal ⟨3, ![8, q, 1024]⟩ .f32}
    {s : (⟨3, ![8, n, 1024]⟩ : Shape).Slices ![0, 0, 0] ⟨3, ![8, 1, 1024]⟩}
    {c : Shape.Concatenates [⟨3, ![8, 1, 1024]⟩, ⟨3, ![8, q, 1024]⟩] ⟨3, ![8, h, 1024]⟩ 1} (b : Fin 8) (k : Fin 1024)
    (j : Fin h) (e : j.val = 0) (hn : 0 < n) : headed x y s c (ix3 b j k) = x (ix3 b ⟨0, hn⟩ k) := by
  unfold headed
  refine (concatenate_pair_apply _ _ _ c _).trans ((dif_pos (show j.val < 1 by omega)).trans ?_)
  refine extractStridedSlice_apply _ x s _ _ (fun a => ?_)
  match a with
  | ⟨0, _⟩ => show b.val = 0 + b.val; omega
  | ⟨1, _⟩ => show 0 = 0 + j.val; omega
  | ⟨2, _⟩ => show k.val = 0 + k.val; omega

theorem headed_succ {n h q : ℕ} {x : FVec Ideal ⟨3, ![8, n, 1024]⟩ .f32} {y : FVec Ideal ⟨3, ![8, q, 1024]⟩ .f32}
    {s : (⟨3, ![8, n, 1024]⟩ : Shape).Slices ![0, 0, 0] ⟨3, ![8, 1, 1024]⟩}
    {c : Shape.Concatenates [⟨3, ![8, 1, 1024]⟩, ⟨3, ![8, q, 1024]⟩] ⟨3, ![8, h, 1024]⟩ 1} (b : Fin 8) (k : Fin 1024)
    (j : Fin h) (i : Fin q) (e : j.val = i.val + 1) : headed x y s c (ix3 b j k) = y (ix3 b i k) := by
  unfold headed
  refine (concatenate_pair_apply _ _ _ c _).trans ((dif_neg (show ¬ j.val < 1 by omega)).trans ?_)
  refine congrArg y (funext fun a => ?_)
  match a with
  | ⟨0, _⟩ => rfl
  | ⟨1, _⟩ => exact Fin.ext (by show j.val - 1 = i.val; omega)
  | ⟨2, _⟩ => rfl

/-- Coming back: the odd rows are the level below, an even row the level below composed with its own row. -/
theorem Holds.up {n h q : ℕ} {f : Fin 8 → Fin 1024 → ℕ → EReal × EReal} {D W : FVec Ideal ⟨3, ![8, n, 1024]⟩ .f32}
    {SD SW : FVec Ideal ⟨3, ![8, h, 1024]⟩ .f32}
    (H : Holds n f D W) (hf : ∀ b k i, Mild (f b k i)) (S : Holds h (fun b k => upTo (pairs (f b k))) SD SW)
    (hn : n = 2 * h) (hq : h = q + 1)
    (sl : (⟨3, ![8, h, 1024]⟩ : Shape).Slices ![0, 0, 0] ⟨3, ![8, q, 1024]⟩)
    (s2 : (⟨3, ![8, n, 1024]⟩ : Shape).SlicesBy ![0, 2, 0] ![1, 2, 1] ⟨3, ![8, q, 1024]⟩)
    (s : (⟨3, ![8, n, 1024]⟩ : Shape).Slices ![0, 0, 0] ⟨3, ![8, 1, 1024]⟩)
    (c : Shape.Concatenates [⟨3, ![8, 1, 1024]⟩, ⟨3, ![8, q, 1024]⟩] ⟨3, ![8, h, 1024]⟩ 1)
    (p0 : (⟨3, ![8, h, 1024]⟩ : Shape).Pads ![0, 0, 0] ![0, 1, 0] ![0, 1, 0] ⟨3, ![8, n, 1024]⟩)
    (p1 : (⟨3, ![8, h, 1024]⟩ : Shape).Pads ![0, 1, 0] ![0, 0, 0] ![0, 1, 0] ⟨3, ![8, n, 1024]⟩) (hu : 0 < (⟨0, ![]⟩ : Shape).numel) :
    Holds n (fun b k => upTo (f b k))
      (weave (headed D (mulf (extractStridedSlice ⟨3, ![8, q, 1024]⟩ ![0, 0, 0] SD sl) (Host.slice ⟨3, ![8, q, 1024]⟩ ![0, 2, 0] ![1, 2, 1] D s2)) s c)
        SD zero zero p0 p1 hu)
      (weave (headed W (addf (Host.slice ⟨3, ![8, q, 1024]⟩ ![0, 2, 0] ![1, 2, 1] W s2)
          (mulf (Host.slice ⟨3, ![8, q, 1024]⟩ ![0, 2, 0] ![1, 2, 1] D s2) (extractStridedSlice ⟨3, ![8, q, 1024]⟩ ![0, 0, 0] SW sl))) s c)
        SW zero zero p0 p1 hu) := by
  intro b i k
  have hi := i.isLt
  rcases Nat.even_or_odd' i.val with ⟨j, hj | hj⟩
  · have hjh : j < h := by omega
    rw [weave_even zero_eq b k ⟨j, hjh⟩ i hj, weave_even zero_eq b k ⟨j, hjh⟩ i hj]
    rcases j with _ | j
    · have h0 : 0 < n := by omega
      rw [headed_zero b k ⟨0, hjh⟩ rfl h0, headed_zero b k ⟨0, hjh⟩ rfl h0]
      have := H.at b k h0 rfl
      rw [show i.val = 0 by omega]
      exact this
    · have hjq : j < q := by omega
      rw [headed_succ b k ⟨j + 1, hjh⟩ ⟨j, hjq⟩ rfl, headed_succ b k ⟨j + 1, hjh⟩ ⟨j, hjq⟩ rfl]
      have e0 := H.at b k (row_lt s2 ⟨j, hjq⟩) (j := 2 * j + 1 + 1) (by show 2 + 2 * j = _; omega)
      have e1 := S.at b k (show j < h by omega) rfl
      rw [upTo_pairs (hf b k)] at e1
      have t (x : FVec Ideal ⟨3, ![8, h, 1024]⟩ .f32) :
          extractStridedSlice ⟨3, ![8, q, 1024]⟩ ![0, 0, 0] x sl (ix3 b ⟨j, hjq⟩ k) = x (ix3 b ⟨j, by omega⟩ k) :=
        extractStridedSlice_apply _ x sl _ _ (fun a => by
          match a with
          | ⟨0, _⟩ => show b.val = 0 + b.val; omega
          | ⟨1, _⟩ => show j = 0 + j; omega
          | ⟨2, _⟩ => show k.val = 0 + k.val; omega)
      rw [show i.val = 2 * j + 1 + 1 by omega]
      refine ⟨?_, ?_⟩
      · show (extractStridedSlice ⟨3, ![8, q, 1024]⟩ ![0, 0, 0] SD sl (ix3 b ⟨j, hjq⟩ k) : EReal)
          * Host.slice ⟨3, ![8, q, 1024]⟩ ![0, 2, 0] ![1, 2, 1] D s2 (ix3 b ⟨j, hjq⟩ k) = _
        rw [t, halve_row, e0.1, e1.1]; rfl
      · show (Host.slice ⟨3, ![8, q, 1024]⟩ ![0, 2, 0] ![1, 2, 1] W s2 (ix3 b ⟨j, hjq⟩ k) : EReal)
          + Host.slice ⟨3, ![8, q, 1024]⟩ ![0, 2, 0] ![1, 2, 1] D s2 (ix3 b ⟨j, hjq⟩ k)
            * extractStridedSlice ⟨3, ![8, q, 1024]⟩ ![0, 0, 0] SW sl (ix3 b ⟨j, hjq⟩ k) = _
        rw [t, halve_row, halve_row, e0.1, e0.2, e1.2]; rfl
  · have hjh : j < h := by omega
    rw [weave_odd zero_eq b k ⟨j, hjh⟩ i hj, weave_odd zero_eq b k ⟨j, hjh⟩ i hj, hj]
    have := S.at b k hjh rfl
    rw [upTo_pairs (hf b k)] at this
    exact this

end Cert.Proof
end
-- ==== Proof.RefScan.lean ====
/- The reference's prefix scan, level by level: its last buffers hold the rows composed one after the other. -/
module

public import proofs.«01_k».proof.Proof.Gen.ReferenceIdeal.Read
public import proofs.«01_k».proof.Proof.Scan

@[expose] public section

noncomputable section

namespace Cert.Proof

open Cert.ReferenceIdeal Cert.ReferenceIdeal.Gen Cert.ReferenceIdeal.Read
open Idealize.ShloMosaic Idealize.ShloMosaic.Tactic

variable (x0 : FVec Ideal S8x1024x1024 .f32) (x2 : FVec Ideal S8x2048 .f32) (x3 : IVec S8x1024 32)

theorem scan {f : Fin 8 → Fin 1024 → ℕ → EReal × EReal} (hf : ∀ b k i, Mild (f b k i))
    (H : Holds 1024 f (val_main_v11 (F := Ideal) x2 x3) (val_main_v15 (F := Ideal) x0 x2 x3)) :
    Holds 1024 (fun b k => upTo (f b k)) (val_main_v252 (F := Ideal) x2 x3) (val_main_v255 (F := Ideal) x0 x2 x3) := by
  have H1 : Holds 512 _ (val_main_v20 (F := Ideal) x2 x3) (val_main_v22 (F := Ideal) x0 x2 x3) := H.down _ _
  have m1 := fun b k => pairs_mild (hf b k)
  have H2 : Holds 256 _ (val_main_v27 (F := Ideal) x2 x3) (val_main_v29 (F := Ideal) x0 x2 x3) := H1.down _ _
  have m2 := fun b k => pairs_mild (m1 b k)
  have H3 : Holds 128 _ (val_main_v34 (F := Ideal) x2 x3) (val_main_v36 (F := Ideal) x0 x2 x3) := H2.down _ _
  have m3 := fun b k => pairs_mild (m2 b k)
  have H4 : Holds 64 _ (val_main_v41 (F := Ideal) x2 x3) (val_main_v43 (F := Ideal) x0 x2 x3) := H3.down _ _
  have m4 := fun b k => pairs_mild (m3 b k)
  have H5 : Holds 32 _ (val_main_v48 (F := Ideal) x2 x3) (val_main_v50 (F := Ideal) x0 x2 x3) := H4.down _ _
  have m5 := fun b k => pairs_mild (m4 b k)
  have H6 : Holds 16 _ (val_main_v55 (F := Ideal) x2 x3) (val_main_v57 (F := Ideal) x0 x2 x3) := H5.down _ _
  have m6 := fun b k => pairs_mild (m5 b k)
  have H7 : Holds 8 _ (val_main_v62 (F := Ideal) x2 x3) (val_main_v64 (F := Ideal) x0 x2 x3) := H6.down _ _
  have m7 := fun b k => pairs_mild (m6 b k)
  have H8 : Holds 4 _ (val_main_v69 (F := Ideal) x2 x3) (val_main_v71 (F := Ideal) x0 x2 x3) := H7.down _ _
  have m8 := fun b k => pairs_mild (m7 b k)
  have H9 : Holds 2 _ (val_main_v76 (F := Ideal) x2 x3) (val_main_v78 (F := Ideal) x0 x2 x3) := H8.down _ _
  have m9 := fun b k => pairs_mild (m8 b k)
  have H10 : Holds 1 _ (val_main_v83 (F := Ideal) x2 x3) (val_main_v85 (F := Ideal) x0 x2 x3) := H9.down _ _
  have m10 := fun b k => pairs_mild (m9 b k)
  have U10 := H10.one
  have U9 : Holds 2 _ (val_main_v99 (F := Ideal) x2 x3) (val_main_v102 (F := Ideal) x0 x2 x3) := H9.up m9 U10 rfl rfl _ _ _ _ _ _ _
  have U8 : Holds 4 _ (val_main_v116 (F := Ideal) x2 x3) (val_main_v119 (F := Ideal) x0 x2 x3) := H8.up m8 U9 rfl rfl _ _ _ _ _ _ _
  have U7 : Holds 8 _ (val_main_v133 (F := Ideal) x2 x3) (val_main_v136 (F := Ideal) x0 x2 x3) := H7.up m7 U8 rfl rfl _ _ _ _ _ _ _
  have U6 : Holds 16 _ (val_main_v150 (F := Ideal) x2 x3) (val_main_v153 (F := Ideal) x0 x2 x3) := H6.up m6 U7 rfl rfl _ _ _ _ _ _ _
  have U5 : Holds 32 _ (val_main_v167 (F := Ideal) x2 x3) (val_main_v170 (F := Ideal) x0 x2 x3) := H5.up m5 U6 rfl rfl _ _ _ _ _ _ _
  have U4 : Holds 64 _ (val_main_v184 (F := Ideal) x2 x3) (val_main_v187 (F := Ideal) x0 x2 x3) := H4.up m4 U5 rfl rfl _ _ _ _ _ _ _
  have U3 : Holds 128 _ (val_main_v201 (F := Ideal) x2 x3) (val_main_v204 (F := Ideal) x0 x2 x3) := H3.up m3 U4 rfl rfl _ _ _ _ _ _ _
  have U2 : Holds 256 _ (val_main_v218 (F := Ideal) x2 x3) (val_main_v221 (F := Ideal) x0 x2 x3) := H2.up m2 U3 rfl rfl _ _ _ _ _ _ _
  have U1 : Holds 512 _ (val_main_v235 (F := Ideal) x2 x3) (val_main_v238 (F := Ideal) x0 x2 x3) := H1.up m1 U2 rfl rfl _ _ _ _ _ _ _
  have U0 : Holds 1024 _ (val_main_v252 (F := Ideal) x2 x3) (val_main_v255 (F := Ideal) x0 x2 x3) := H.up hf U1 rfl rfl _ _ _ _ _ _ _
  exact U0

end Cert.Proof
end
-- ==== Proof.RefRows.lean ====
/- The rows the reference scans: the clipped probabilities it takes, the decays and weighted rows with row 0 set. -/
module

public import proofs.«01_k».proof.Proof.RefScan
public import proofs.«01_k».proof.Proof.Body
public import Idealize.ShloMosaic.Lib.Routing.OpsSet
public import Idealize.ShloMosaic.Lib.WordCmp

@[expose] public section

noncomputable section

namespace Cert.Proof

open Cert.ReferenceIdeal Cert.ReferenceIdeal.Gen Cert.ReferenceIdeal.Read
open Idealize.ShloMosaic Idealize.ShloMosaic.Tactic

variable (x0 : FVec Ideal S8x1024x1024 .f32) (x2 : FVec Ideal S8x2048 .f32) (x3 : IVec S8x1024 32)

/-! ## Row 0 set -/

/-- An update lands on row 0 of its batch and column. -/
theorem lands (j : S8x1024.Idx) (i : S1.Idx → BitVec 32) (hi : i = fun _ => 0#32) :
    scatter_S8x1024x1024_S1_S8x1024_01_1_1_0.resultIdx? j i = some (ix3 (j 0) ⟨0, by decide⟩ (j 1)) := by
  subst hi
  have s : ∀ a, scatter_S8x1024x1024_S1_S8x1024_01_1_1_0.start j (fun _ => 0#32) a = 0 := fun a => by
    match a with
    | ⟨0, _⟩ => rfl
    | ⟨1, _⟩ => rfl
    | ⟨2, _⟩ => rfl
  have w0 : scatter_S8x1024x1024_S1_S8x1024_01_1_1_0.window j 0 = (j 0).val := rfl
  have w1 : scatter_S8x1024x1024_S1_S8x1024_01_1_1_0.window j 1 = 0 := rfl
  have w2 : scatter_S8x1024x1024_S1_S8x1024_01_1_1_0.window j 2 = (j 1).val := rfl
  have h0 : (j 0).val < 8 := (j 0).isLt
  have h1 : (j 1).val < 1024 := (j 1).isLt
  unfold ScatterDims.resultIdx?
  rw [dif_pos (fun a => by
    rw [s]
    match a with
    | ⟨0, _⟩ => rw [show scatter_S8x1024x1024_S1_S8x1024_01_1_1_0.window j ⟨0, _⟩ = (j 0).val from rfl]; show _ ∧ _ < ((8 : ℕ) : Int); omega
    | ⟨1, _⟩ => rw [show scatter_S8x1024x1024_S1_S8x1024_01_1_1_0.window j ⟨1, _⟩ = 0 from rfl]; show _ ∧ _ < ((1024 : ℕ) : Int); omega
    | ⟨2, _⟩ => rw [show scatter_S8x1024x1024_S1_S8x1024_01_1_1_0.window j ⟨2, _⟩ = (j 1).val from rfl]; show _ ∧ _ < ((1024 : ℕ) : Int); omega)]
  refine congrArg some (funext fun a => Fin.ext ?_)
  show ((scatter_S8x1024x1024_S1_S8x1024_01_1_1_0.start j (fun _ => 0#32) a + scatter_S8x1024x1024_S1_S8x1024_01_1_1_0.window j a : Int)).toNat = _
  rw [s]
  match a with
  | ⟨0, _⟩ => rw [show scatter_S8x1024x1024_S1_S8x1024_01_1_1_0.window j ⟨0, _⟩ = (j 0).val from rfl]; show _ = (j 0).val; omega
  | ⟨1, _⟩ => rw [show scatter_S8x1024x1024_S1_S8x1024_01_1_1_0.window j ⟨1, _⟩ = 0 from rfl]; show _ = 0; omega
  | ⟨2, _⟩ => rw [show scatter_S8x1024x1024_S1_S8x1024_01_1_1_0.window j ⟨2, _⟩ = (j 1).val from rfl]; show _ = (j 1).val; omega

/-- The scatter replaces row 0 and leaves the others. -/
theorem set_row (x : FVec Ideal S8x1024x1024 .f32) (u : FVec Ideal S8x1024 .f32) (i : S1.Idx → BitVec 32) (hi : i = fun _ => 0#32)
    (b : Fin 8) (r k : Fin 1024) :
    Host.scatter scatter_S8x1024x1024_S1_S8x1024_01_1_1_0 (fun _ b => b) x i u (ix3 b r k)
      = if r.val = 0 then u (ix2 b k) else x (ix3 b r k) := by
  split
  · rename_i h
    obtain rfl : r = ⟨0, by decide⟩ := Fin.ext h
    refine Routing.scatter_set_hit _ x i u _ _ (fun j hj => ?_) (ix2 b k) (lands (ix2 b k) i hi)
    rw [lands j i hi] at hj
    have e := Option.some.inj hj
    have e0 : j 0 = b := congrFun e 0
    have e1 : j 1 = k := congrFun e 2
    rw [← e0, ← e1]
    exact congrArg u (eq_ix2 j)
  · rename_i h
    refine Routing.scatter_set_miss _ x i u _ (fun j hj => h ?_)
    rw [lands j i hi] at hj
    have e := Option.some.inj hj
    have e1 : (⟨0, by decide⟩ : Fin 1024) = r := congrFun e 1
    exact (congrArg Fin.val e1).symm

/-! ## The probabilities -/

/-- The wrapped index is the word itself: it is never negative. -/
theorem word_eq (hx : ∀ y, (x3 y).toNat < 2048) (b : Fin 8) (i : Fin 1024) (z : Fin 1) :
    val_main_call0_v5 (F := Ideal) x3 (ix3 b i z) = x3 (ix2 b i) := by
  unfold val_main_call0_v5
  pointwise
  have h := hx (ix2 b i)
  have hs : (x3 (ix2 b i)).slt 0#32 = false := by
    simp only [BitVec.slt, decide_eq_false_iff_not, BitVec.toInt, BitVec.toNat_ofNat]
    omega
  show Scalar.select (IntOp.cmpi .slt (x3 (ix2 b i)) 0#32) _ _ = _
  rw [IntOp.cmpi, hs]
  rfl

/-- The conjunction over a unit axis. -/
theorem fold_one (f : Fin 1 → BitVec 1) (z : BitVec 1) : Finset.fold IntOp.andi z f Finset.univ = IntOp.andi (f 0) z := by
  show Finset.fold IntOp.andi z f ({0} : Finset (Fin 1)) = _
  rw [Finset.fold_singleton]

/-- A word between 0 and `n` passes both bounds. -/
theorem inside (w : BitVec 32) (n : ℕ) (h : w.toNat ≤ n) (hn : n < 2 ^ 31) :
    IntOp.andi (IntOp.cmpi .sge w 0#32) (IntOp.cmpi .sle w (BitVec.ofNat 32 n)) = 1#1 := by
  simp only [IntOp.cmpi, WordCmp.andi_ofBool, WordCmp.ofBool_eq_one_iff, Bool.and_eq_true, BitVec.sle, decide_eq_true_eq, BitVec.toInt,
    BitVec.toNat_ofNat]
  omega

/-- The lookup's bounds test passes for every word. -/
theorem word_ok (hx : ∀ y, (x3 y).toNat < 2048) (b : Fin 8) (i : Fin 1024) : val_main_call0_v12 (F := Ideal) x3 (ix2 b i) = 1#1 := by
  unfold val_main_call0_v12
  pointwise
  refine (fold_one _ _).trans ?_
  show IntOp.andi (val_main_call0_v11 (F := Ideal) x3 (ix3 b i 0)) 1#1 = 1#1
  rw [show val_main_call0_v11 (F := Ideal) x3 (ix3 b i 0)
    = IntOp.andi (IntOp.cmpi .sge (val_main_call0_v5 (F := Ideal) x3 (ix3 b i 0)) 0#32) (IntOp.cmpi .sle (val_main_call0_v5 (F := Ideal) x3 (ix3 b i 0)) 2047#32) from rfl,
    word_eq x3 hx, inside _ 2047 (by have := hx (ix2 b i); omega) (by decide)]
  rfl

/-- The lookup reads the probability the word names. -/
theorem prob_row (hx : ∀ y, (x3 y).toNat < 2048) (b : Fin 8) (i : Fin 1024) :
    val_main_call0_v13 (F := Ideal) x2 x3 (ix2 b i) = x2 (ix2 b ⟨(x3 (ix2 b i)).toNat % 2048, Nat.mod_lt _ (by decide)⟩) := by
  unfold val_main_call0_v13
  refine congrArg x2 (funext fun a => Fin.ext ?_)
  have hw : ∀ c, gather_S8x2048_S8x1024x1_S8x1024_n_1_0_0_1_2_11.siIdx (ix2 b i) c = ix3 b i ⟨0, by decide⟩ := fun c => by
    funext a
    match a with
    | ⟨0, _⟩ => rfl
    | ⟨1, _⟩ => rfl
    | ⟨2, _⟩ => exact Subsingleton.elim (α := Fin 1) _ _
  have h := hx (ix2 b i)
  match a with
  | ⟨0, _⟩ => exact (Nat.add_zero _).trans (Nat.zero_add _)
  | ⟨1, _⟩ =>
    show min (val_main_call0_v5 (F := Ideal) x3 (gather_S8x2048_S8x1024x1_S8x1024_n_1_0_0_1_2_11.siIdx (ix2 b i) _)).toInt.toNat 2047 + 0 + 0 = _
    rw [hw, word_eq x3 hx]
    show _ = (x3 (ix2 b i)).toNat % 2048
    simp only [BitVec.toInt]
    omega

/-- The clipped probability of a row, as the reference has it. -/
theorem prob_eq (hx : ∀ y, (x3 y).toNat < 2048) (b : Fin 8) (i : Fin 1024) :
    val_main_v1 (F := Ideal) x2 x3 (ix2 b i) = clipP (F := Ideal) (x2 (ix2 b ⟨(x3 (ix2 b i)).toNat % 2048, Nat.mod_lt _ (by decide)⟩)) := by
  have e : val_main_v0 (F := Ideal) x2 x3 (ix2 b i) = x2 (ix2 b ⟨(x3 (ix2 b i)).toNat % 2048, Nat.mod_lt _ (by decide)⟩) := by
    rw [← prob_row x2 x3 hx]
    unfold val_main_v0
    rw [show ∀ (p : IVec S8x1024 1) (a c : FVec Ideal S8x1024 .f32), select p a c (ix2 b i) = Scalar.select (p (ix2 b i)) (a (ix2 b i)) (c (ix2 b i)) from fun _ _ _ => rfl,
      word_ok x3 hx]
    exact if_pos rfl
  rw [← e]
  unfold val_main_v1 val_main_call1_v2
  generalize val_main_v0 (F := Ideal) x2 x3 = q
  rfl

theorem one_eq : (Scalar.ofBits (F := Ideal) .f32 0x3F800000#32 : EReal) = 1 := by
  pointwise

theorem low_eq : 0 ≤ (Scalar.ofBits (F := Ideal) .f32 0x38D1B717#32 : EReal) := by
  show 0 ≤ Ideal.ofBits .f32 0x38D1B717#32
  simp [Ideal.ofBits, Ideal.ieee]
  rw [← EReal.coe_mul, ← EReal.coe_zero, EReal.coe_le_coe_iff]
  norm_num

theorem high_eq : 0 ≤ (Scalar.ofBits (F := Ideal) .f32 0x3F7FF972#32 : EReal) ∧ (Scalar.ofBits (F := Ideal) .f32 0x3F7FF972#32 : EReal) ≤ 1 := by
  show 0 ≤ Ideal.ofBits .f32 0x3F7FF972#32 ∧ Ideal.ofBits .f32 0x3F7FF972#32 ≤ 1
  simp [Ideal.ofBits, Ideal.ieee]
  rw [← EReal.coe_mul, ← EReal.coe_zero, ← EReal.coe_one, EReal.coe_le_coe_iff, EReal.coe_le_coe_iff]
  constructor <;> norm_num

/-- What a clipped probability leaves is a decay that multiplies through sums. -/
theorem rest_mild (q v : EReal) : Mild (Scalar.subf (F := Ideal) (φ := .f32) (Scalar.ofBits .f32 0x3F800000#32) (clipP (F := Ideal) q), v) := by
  have h0 : 0 ≤ clipP (F := Ideal) q := le_min high_eq.1 (low_eq.trans (le_max_left _ _))
  have h1 : clipP (F := Ideal) q ≤ 1 := (min_le_left _ _).trans high_eq.2
  unfold Mild
  show 0 ≤ (Scalar.ofBits (F := Ideal) .f32 0x3F800000#32 : EReal) - clipP (F := Ideal) q ∧ (Scalar.ofBits (F := Ideal) .f32 0x3F800000#32 : EReal) - clipP (F := Ideal) q ≠ ⊤
  rw [one_eq]
  generalize (clipP (F := Ideal) q : EReal) = x at h0 h1
  lift x to ℝ using ⟨fun h => by rw [h] at h1; exact absurd h1 (by decide), fun h => by rw [h] at h0; exact absurd h0 (by decide)⟩
  rw [← EReal.coe_one, ← EReal.coe_sub]
  refine ⟨?_, EReal.coe_ne_top _⟩
  rw [← EReal.coe_zero, EReal.coe_le_coe_iff]
  rw [← EReal.coe_one, EReal.coe_le_coe_iff] at h1
  linarith

/-- The clipped probability of a row. -/
def prob (b : Fin 8) (r : ℕ) : EReal :=
  clipP (F := Ideal) (x2 (ix2 b ⟨(x3 (ix2 b ⟨r % 1024, Nat.mod_lt _ (by decide)⟩)).toNat % 2048, Nat.mod_lt _ (by decide)⟩))

/-- The pairs the reference scans. -/
def feed (b : Fin 8) (k : Fin 1024) (r : ℕ) : EReal × EReal :=
  if r = 0 then (0, x0 (ix3 b ⟨0, by decide⟩ k))
  else (Scalar.subf (F := Ideal) (φ := .f32) (Scalar.ofBits .f32 0x3F800000#32) (prob x2 x3 b r),
    (prob x2 x3 b r : EReal) * x0 (ix3 b ⟨r % 1024, Nat.mod_lt _ (by decide)⟩ k))

/-- Every decay the reference scans is a nonnegative number. -/
theorem feed_mild (b : Fin 8) (k : Fin 1024) (r : ℕ) : Mild (feed x0 x2 x3 b k r) := by
  unfold feed
  split
  · exact ⟨le_refl 0, EReal.zero_ne_top⟩
  · exact rest_mild _ _

/-- The arrays the reference scans hold these pairs. -/
theorem feed_holds (hx : ∀ y, (x3 y).toNat < 2048) :
    Holds 1024 (feed x0 x2 x3) (val_main_v11 (F := Ideal) x2 x3) (val_main_v15 (F := Ideal) x0 x2 x3) := by
  intro b r k
  have hp : prob x2 x3 b r.val = val_main_v1 (F := Ideal) x2 x3 (ix2 b r) := by
    rw [prob_eq x2 x3 hx]
    exact congrArg (fun z : Fin 1024 => clipP (F := Ideal) (x2 (ix2 b ⟨(x3 (ix2 b z)).toNat % 2048, Nat.mod_lt _ (by decide)⟩)))
      (show (⟨r.val % 1024, Nat.mod_lt _ (by decide)⟩ : Fin 1024) = r from Fin.ext (Nat.mod_eq_of_lt r.isLt))
  have hr : (⟨r.val % 1024, Nat.mod_lt _ (by decide)⟩ : Fin 1024) = r := Fin.ext (Nat.mod_eq_of_lt r.isLt)
  unfold val_main_v11 val_main_v15 feed
  rw [set_row (val_main_v5 (F := Ideal) x2 x3) (val_main_v10 (F := Ideal)) (val_main_v9 (F := Ideal)) rfl,
    set_row (val_main_v8 (F := Ideal) x0 x2 x3) (val_main_v13 (F := Ideal) x0) (val_main_v14 (F := Ideal)) rfl]
  split
  · refine ⟨Ideal.ofBits_zero_f32, ?_⟩
    show val_main_v13 (F := Ideal) x0 (ix2 b k) = _
    unfold val_main_v13 val_main_v12
    pointwise
  · rw [hp, hr]
    refine ⟨?_, ?_⟩
    · unfold val_main_v5 val_main_v4 val_main_v3 val_main_v2 val_main_cst_1
      generalize val_main_v1 (F := Ideal) x2 x3 = q
      pointwise
    · unfold val_main_v8 val_main_v7 val_main_v6
      pointwise

end Cert.Proof
end
-- ==== Proof.Count.lean ====
/- The boundaries counted: the running sum of a batch's mask, as the reference's window sum gives it, and the row it names. -/
module

public import proofs.«01_k».proof.Proof.Gen.ReferenceIdeal.Read
public import Idealize.ShloMosaic.Lib.Pipeline.ValueKit
public import Idealize.ShloMosaic.Lib.WordSum
public import Idealize.ShloMosaic.Lib.WordCmp

@[expose] public section

noncomputable section

namespace Cert.Proof

open Cert.ReferenceIdeal Cert.ReferenceIdeal.Gen Cert.ReferenceIdeal.Read
open Idealize.ShloMosaic Idealize.ShloMosaic.Tactic
open Finset (range)

/-- Element `i` of batch `b` of the mask, as a word. -/
def flag (x1 : IVec S8x2048 1) (b : Fin 8) (i : ℕ) : BitVec 32 := (x1 (ix2 b ⟨i % 2048, Nat.mod_lt _ (by decide)⟩)).setWidth 32

/-- The boundaries among the first `n` elements of batch `b`. -/
def tally (x1 : IVec S8x2048 1) (b : Fin 8) (n : ℕ) : BitVec 32 := ∑ i ∈ range n, flag x1 b i

variable (x1 : IVec S8x2048 1)

theorem flag_le (b : Fin 8) (i : ℕ) : (flag x1 b i).toNat ≤ 1 := by
  unfold flag
  have h := (x1 (ix2 b ⟨i % 2048, Nat.mod_lt _ (by decide)⟩)).isLt
  rw [BitVec.toNat_setWidth]
  omega

theorem tally_zero (b : Fin 8) : tally x1 b 0 = 0#32 := rfl

theorem tally_succ (b : Fin 8) (n : ℕ) : tally x1 b (n + 1) = tally x1 b n + flag x1 b n := Finset.sum_range_succ _ _

theorem tally_nat_succ (b : Fin 8) (n : ℕ) (hn : n < 2048) (ih : (tally x1 b n).toNat ≤ n) :
    (tally x1 b (n + 1)).toNat = (tally x1 b n).toNat + (flag x1 b n).toNat := by
  have h := flag_le x1 b n
  rw [tally_succ, BitVec.toNat_add]
  omega

/-- No more boundaries than elements. -/
theorem tally_le (b : Fin 8) : ∀ n, n ≤ 2048 → (tally x1 b n).toNat ≤ n
  | 0, _ => le_of_eq rfl
  | n + 1, h => by
    have ih := tally_le b n (by omega)
    have := flag_le x1 b n
    rw [tally_nat_succ x1 b n (by omega) ih]
    omega

/-- Over `d` more elements the count grows by at most `d`. -/
theorem tally_grow (b : Fin 8) (n : ℕ) : ∀ d, n + d ≤ 2048 →
    (tally x1 b n).toNat ≤ (tally x1 b (n + d)).toNat ∧ (tally x1 b (n + d)).toNat ≤ (tally x1 b n).toNat + d
  | 0, _ => ⟨le_refl _, le_refl _⟩
  | d + 1, h => by
    have ih := tally_grow b n d (by omega)
    have hf := flag_le x1 b (n + d)
    rw [show n + (d + 1) = n + d + 1 by omega, tally_nat_succ x1 b (n + d) (by omega) (tally_le x1 b _ (by omega))]
    omega

/-- A window that ends at place `l` and is empty before place 0 sums the places up to `l`. -/
theorem tail_sum (n l : ℕ) (hl : l ≤ n) (f : ℕ → BitVec 32) :
    ∑ k : Fin (n + 1), (if n ≤ l + k.val then f (l + k.val - n) else 0#32) = ∑ i ∈ range (l + 1), f i := by
  rw [Fin.sum_univ_eq_sum_range (fun k => if n ≤ l + k then f (l + k - n) else 0#32) (n + 1),
    show n + 1 = (n - l) + (l + 1) by omega, Finset.sum_range_add]
  have z : (∑ k ∈ range (n - l), if n ≤ l + k then f (l + k - n) else 0#32) = 0 :=
    Finset.sum_eq_zero fun k hk => if_neg (by have := Finset.mem_range.1 hk; omega)
  rw [z, zero_add]
  refine Finset.sum_congr rfl fun k hk => ?_
  rw [if_pos (by omega)]
  exact congrArg _ (by omega)

/-- An integer window sum from zero is a sum over the window's places, those outside the operand zero. -/
theorem window_sum {s t u : Shape} (window strides lo hi : Fin s.rank → ℕ) (x : s.Idx → BitVec 32) (init : u.Idx → BitVec 32)
    (h : s.ReduceWindows window strides lo hi t) (hu : 0 < u.numel) (j : t.Idx) (hz : init (Shape.Idx.first hu) = 0#32) :
    Host.reduceWindow IntOp.addi window strides lo hi x init h hu j
      = ∑ k : (⟨s.rank, window⟩ : Shape).Idx,
        if hin : ∀ a, lo a ≤ (j (a.cast h.1.symm)).val * strides a + (k a).val
            ∧ (j (a.cast h.1.symm)).val * strides a + (k a).val - lo a < s.size a
        then x (fun a => ⟨(j (a.cast h.1.symm)).val * strides a + (k a).val - lo a, (hin a).2⟩) else 0#32 := by
  rw [sum_idx_eq_foldl]
  unfold Host.reduceWindow
  simp only [hz]
  rfl

/-- The window sum the reference takes of the mask is the count up to and with its own element. -/
theorem sum_eq (b : Fin 8) (l : Fin 2048) : val_main_v257 (F := Ideal) x1 (ix2 b l) = tally x1 b (l.val + 1) := by
  unfold val_main_v257
  have hx : ∀ j, val_main_v256 (F := Ideal) x1 j = (x1 j).setWidth 32 := fun j => val_main_v256_apply x1 j
  generalize val_main_v256 (F := Ideal) x1 = y at hx
  refine (window_sum _ _ _ _ y _ _ _ _ rfl).trans ?_
  refine (sum_idx2 (n0 := 1) (n1 := 2048) _).trans ?_
  rw [Fin.sum_univ_one]
  have hb := b.isLt
  have hl := l.isLt
  refine (Finset.sum_congr rfl (g := fun k : Fin 2048 => if 2047 ≤ l.val + k.val then flag x1 b (l.val + k.val - 2047) else 0#32) fun k _ => ?_).trans ?_
  · have hk := k.isLt
    by_cases h : 2047 ≤ l.val + k.val
    · rw [if_pos h, dif_pos (fun a => by
        match a with
        | ⟨0, _⟩ => show 0 ≤ b.val * 1 + 0 ∧ b.val * 1 + 0 - 0 < 8; omega
        | ⟨1, _⟩ => show 2047 ≤ l.val * 1 + k.val ∧ l.val * 1 + k.val - 2047 < 2048; omega), hx]
      refine congrArg (fun z => (x1 z).setWidth 32) (funext fun a => Fin.ext ?_)
      match a with
      | ⟨0, _⟩ => show b.val * 1 + 0 - 0 = b.val; omega
      | ⟨1, _⟩ => show l.val * 1 + k.val - 2047 = (l.val + k.val - 2047) % 2048; omega
    · rw [if_neg h, dif_neg (fun hin => h (by have : 2047 ≤ l.val * 1 + k.val := (hin 1).1; omega))]
  · exact tail_sum 2047 l.val (by omega) (flag x1 b)

/-- The row a count names: one less, kept between 0 and 1023. -/
theorem clip_word : ∀ s : Fin 2049, IntOp.minsi 1023#32 (IntOp.maxsi 0#32 (IntOp.subi (BitVec.ofNat 32 s.val) 1#32)) = BitVec.ofNat 32 (min 1023 (s.val - 1)) := by
  decide +kernel

/-- The row element `i` of batch `b` takes. -/
def place (b : Fin 8) (i : ℕ) : ℕ := min 1023 ((tally x1 b (i + 1)).toNat - 1)

theorem place_lt (b : Fin 8) (i : ℕ) : place x1 b i < 1024 := by unfold place; omega

theorem place_word (b : Fin 8) (i : ℕ) (hi : i < 2048) :
    IntOp.minsi 1023#32 (IntOp.maxsi 0#32 (IntOp.subi (tally x1 b (i + 1)) 1#32)) = BitVec.ofNat 32 (place x1 b i) := by
  have h := clip_word ⟨(tally x1 b (i + 1)).toNat, by have := tally_le x1 b (i + 1) (by omega); omega⟩
  rw [show BitVec.ofNat 32 (tally x1 b (i + 1)).toNat = tally x1 b (i + 1) from by simp] at h
  exact h

end Cert.Proof
end
-- ==== Proof.RefTail.lean ====
/- The reference's result, element by element: the averaged row its count of boundaries names. -/
module

public import proofs.«01_k».proof.Proof.RefRows
public import proofs.«01_k».proof.Proof.Count

@[expose] public section

noncomputable section

namespace Cert.Proof

open Cert.ReferenceIdeal Cert.ReferenceIdeal.Gen Cert.ReferenceIdeal.Read
open Idealize.ShloMosaic Idealize.ShloMosaic.Tactic

variable (x0 : FVec Ideal S8x1024x1024 .f32) (x1 : IVec S8x2048 1) (x2 : FVec Ideal S8x2048 .f32) (x3 : IVec S8x1024 32)

/-- The row a place takes, before the lookup's own wrapping of negative indices. -/
theorem clip_eq (b : Fin 8) (l : Fin 2048) : val_main_v260 (F := Ideal) x1 (ix2 b l) = BitVec.ofNat 32 (place x1 b l.val) := by
  rw [← place_word x1 b l.val l.isLt, ← sum_eq x1 b l]
  unfold val_main_v260 val_main_call3_v2 val_main_v259
  generalize val_main_v257 (F := Ideal) x1 = q
  rfl

theorem place_toNat (b : Fin 8) (l : Fin 2048) : (BitVec.ofNat 32 (place x1 b l.val)).toNat = place x1 b l.val := by
  have := place_lt x1 b l.val
  rw [BitVec.toNat_ofNat]
  omega

/-- The wrapped index is that row: it is never negative. -/
theorem index_eq (b : Fin 8) (l : Fin 2048) (z : Fin 1) :
    val_main_call4_v4 (F := Ideal) x1 (ix3 b l z) = BitVec.ofNat 32 (place x1 b l.val) := by
  have e : val_main_v261 (F := Ideal) x1 (ix3 b l z) = BitVec.ofNat 32 (place x1 b l.val) := by
    rw [← clip_eq, val_main_v261_apply]
    exact congrArg _ (funext fun a => by match a with | ⟨0, _⟩ => rfl | ⟨1, _⟩ => rfl)
  have h := place_lt x1 b l.val
  have hn := place_toNat x1 b l
  have hs : (BitVec.ofNat 32 (place x1 b l.val)).slt 0#32 = false := by
    simp only [BitVec.slt, decide_eq_false_iff_not, BitVec.toInt, hn, BitVec.toNat_ofNat]
    omega
  rw [val_main_call4_v4_apply, val_main_call4_v1_apply, e, val_main_call4_v0_apply, val_main_call4_c_apply, IntOp.cmpi, hs]
  rfl

/-- The lookup's bounds test passes everywhere, so its filling value is never taken. -/
theorem place_ok (b : Fin 8) (l : Fin 2048) : val_main_call4_v11 (F := Ideal) x1 (ix2 b l) = 1#1 := by
  unfold val_main_call4_v11
  pointwise
  refine (fold_one _ _).trans ?_
  show IntOp.andi (val_main_call4_v10 (F := Ideal) x1 (ix3 b l 0)) 1#1 = 1#1
  rw [show val_main_call4_v10 (F := Ideal) x1 (ix3 b l 0)
    = IntOp.andi (IntOp.cmpi .sge (val_main_call4_v4 (F := Ideal) x1 (ix3 b l 0)) 0#32) (IntOp.cmpi .sle (val_main_call4_v4 (F := Ideal) x1 (ix3 b l 0)) 1023#32) from rfl,
    index_eq, inside _ 1023 (by have := place_lt x1 b l.val; rw [place_toNat]; omega) (by decide)]
  rfl

/-- The lookup reads the scanned row at that place. -/
theorem taken (b : Fin 8) (l : Fin 2048) (k : Fin 1024) :
    val_main_call4_v12 (F := Ideal) x0 x1 x2 x3 (ix3 b l k) = val_main_v255 (F := Ideal) x0 x2 x3 (ix3 b ⟨place x1 b l.val, place_lt x1 b l.val⟩ k) := by
  unfold val_main_call4_v12
  generalize val_main_v255 (F := Ideal) x0 x2 x3 = q
  refine congrArg q (funext fun a => Fin.ext ?_)
  have hw : ∀ c, gather_S8x1024x1024_S8x2048x1_S8x2048x1024_2_1_0_0_1_2_111024.siIdx (ix3 b l k) c = ix3 b l ⟨0, by decide⟩ := fun c => by
    funext a
    match a with
    | ⟨0, _⟩ => rfl
    | ⟨1, _⟩ => rfl
    | ⟨2, _⟩ => exact Subsingleton.elim (α := Fin 1) _ _
  have h := place_lt x1 b l.val
  match a with
  | ⟨0, _⟩ => exact (Nat.add_zero _).trans (Nat.zero_add _)
  | ⟨1, _⟩ =>
    show min (val_main_call4_v4 (F := Ideal) x1 (gather_S8x1024x1024_S8x2048x1_S8x2048x1024_2_1_0_0_1_2_111024.siIdx (ix3 b l k) _)).toInt.toNat 1023 + 0 + 0 = _
    rw [hw, index_eq]
    show _ = place x1 b l.val
    simp only [BitVec.toInt, place_toNat]
    omega
  | ⟨2, _⟩ => exact (congrArg (· + k.val) (Nat.add_zero _)).trans (Nat.zero_add _)

/-- The reference's result at an element. -/
theorem reference_eq (hx : ∀ y, (x3 y).toNat < 2048) (b : Fin 8) (l : Fin 2048) (k : Fin 1024) :
    val_main_v262 (F := Ideal) x0 x1 x2 x3 (ix3 b l k) = (upTo (feed x0 x2 x3 b k) (place x1 b l.val)).2 := by
  have hm : val_main_call4_v13 (F := Ideal) x1 (ix3 b l k) = 1#1 := by
    rw [val_main_call4_v13_apply, ← place_ok x1 b l]
    exact congrArg _ (funext fun a => by match a with | ⟨0, _⟩ => rfl | ⟨1, _⟩ => rfl)
  rw [val_main_v262_apply, hm]
  refine (if_pos rfl).trans ?_
  rw [taken]
  exact (scan x0 x2 x3 (feed_mild x0 x2 x3) (feed_holds x0 x2 x3 hx) b ⟨place x1 b l.val, place_lt x1 b l.val⟩ k).2

end Cert.Proof
end
-- ==== Proof.KernelCount.lean ====
/- The kernel's counts: the running sum of a block's mask by doubling shifts, and the count carried from block to block. -/
module

public import proofs.«01_k».proof.Proof.Reads
public import proofs.«01_k».proof.Proof.Count

@[expose] public section

noncomputable section

namespace Cert.Proof

open Cert.KernelIdeal Cert.KernelIdeal.Gen
open Idealize.ShloMosaic Idealize.ShloMosaic.TcCoe Idealize.ShloMosaic.Tactic
open Idealize.SL Idealize.SL.Sem
open Finset (range)

/-- Each element of a column is the growth of `Q` over the `k` places that end with its own. -/
def Grows (x : IVec S256x1 32) (Q : ℕ → BitVec 32) (k : ℕ) : Prop :=
  ∀ i : Fin 256, x (ix2 i ⟨0, by decide⟩) = Q (i.val + 1) - Q (i.val + 1 - k)

/-- Adding a column to itself moved down `k` places doubles the places each element covers. -/
theorem Grows.double {k n : ℕ} (m : ℕ) {x : IVec S256x1 32} {Q : ℕ → BitVec 32} (h : Grows x Q k)
    (s : S256x1.Slices ![0, 0] ⟨2, ![n, 1]⟩) (c : Shape.Concatenates [⟨2, ![k, 1]⟩, ⟨2, ![n, 1]⟩] S256x1 0) (hn : k + n = 256)
    (hm : k + k = m) :
    Grows (addi x (concatenate S256x1 0 [⟨⟨2, ![k, 1]⟩, broadcast ⟨2, ![k, 1]⟩ 0#32⟩, ⟨⟨2, ![n, 1]⟩, extractStridedSlice ⟨2, ![n, 1]⟩ ![0, 0] x s⟩] c)) Q m := by
  subst hm
  intro i
  have hi := i.isLt
  show x (ix2 i ⟨0, _⟩) + (_ : BitVec 32) = _
  rw [h i]
  by_cases hk : i.val < k
  · have e : concatenate S256x1 0 [⟨⟨2, ![k, 1]⟩, broadcast ⟨2, ![k, 1]⟩ 0#32⟩, ⟨⟨2, ![n, 1]⟩, extractStridedSlice ⟨2, ![n, 1]⟩ ![0, 0] x s⟩] c (ix2 i ⟨0, by decide⟩) = 0#32 :=
      (concatenate_pair_apply _ _ _ c _).trans (dif_pos hk)
    rw [e, show i.val + 1 - k = 0 by omega, show i.val + 1 - (k + k) = 0 by omega]
    exact add_zero _
  · have e : concatenate S256x1 0 [⟨⟨2, ![k, 1]⟩, broadcast ⟨2, ![k, 1]⟩ 0#32⟩, ⟨⟨2, ![n, 1]⟩, extractStridedSlice ⟨2, ![n, 1]⟩ ![0, 0] x s⟩] c (ix2 i ⟨0, by decide⟩)
        = Q (i.val - k + 1) - Q (i.val - k + 1 - k) := by
      refine (concatenate_pair_apply _ _ _ c _).trans ((dif_neg hk).trans ?_)
      refine Eq.trans ?_ (h ⟨i.val - k, by omega⟩)
      refine extractStridedSlice_apply _ x s _ _ (fun a => ?_)
      match a with
      | ⟨0, _⟩ => show i.val - k = 0 + (i.val - k); omega
      | ⟨1, _⟩ => rfl
    rw [e, show i.val + 1 - k = i.val - k + 1 by omega, show i.val + 1 - (k + k) = i.val - k + 1 - k by omega]
    exact sub_add_sub_cancel _ _ _

/-- The counts the kernel forms in a block: the count before it plus the running sum of its mask. -/
theorem counts_apply (w : BitVec 32) (X0 : Vec Ideal S1x256x1 .i32) (Q : ℕ → BitVec 32)
    (h : ∀ i : Fin 256, X0 (ix3 ⟨0, by decide⟩ i ⟨0, by decide⟩) = Q (i.val + 1) - Q i.val) (i : Fin 256) :
    k0_pay27 (F := Ideal) w X0 (ix2 i ⟨0, by decide⟩) = w + (Q (i.val + 1) - Q 0) := by
  have h1 : Grows (k0_pay26 (F := Ideal) X0) Q 1 := fun i => by
    unfold k0_pay26
    pointwise
    exact h i
  unfold k0_pay27
  generalize k0_pay26 (F := Ideal) X0 = x at h1
  have hi : i.val + 1 - 256 = 0 := by have := i.isLt; omega
  exact congrArg (fun z => w + z) (((((((((h1.double 2 slices_S256x1_o0_0_S255x1 concatenates_S1x1_S255x1_S256x1_d0 rfl rfl).double 4
    slices_S256x1_o0_0_S254x1 concatenates_S2x1_S254x1_S256x1_d0 rfl rfl).double 8
    slices_S256x1_o0_0_S252x1 concatenates_S4x1_S252x1_S256x1_d0 rfl rfl).double 16
    slices_S256x1_o0_0_S248x1 concatenates_S8x1_S248x1_S256x1_d0 rfl rfl).double 32
    slices_S256x1_o0_0_S240x1 concatenates_S16x1_S240x1_S256x1_d0 rfl rfl).double 64
    slices_S256x1_o0_0_S224x1 concatenates_S32x1_S224x1_S256x1_d0 rfl rfl).double 128
    slices_S256x1_o0_0_S192x1 concatenates_S64x1_S192x1_S256x1_d0 rfl rfl).double 256
    slices_S256x1_o0_0_S128x1 concatenates_S128x1_S128x1_S256x1_d0 rfl rfl i).trans (congrArg (fun z => Q (i.val + 1) - Q z) hi))

variable (m : (ℓ : Loc nD τ sig) → Buf (Elt Ideal) ℓ)

/-- The mask as the memory holds it. -/
abbrev maskOf (c : Dev nD) : IVec S8x2048 1 := m ((c.tc : Thread nD τ).loc main_arg1)

theorem iblk0_flag (c : Dev nD) (t : Fin cfg0.N) (i : Fin 256) :
    iblk m c 0 t (ix3 ⟨0, by decide⟩ i ⟨0, by decide⟩) = flag (maskOf m c) (bt t) (t.val % 8 * 256 + i.val) := by
  rw [iblk0_apply]
  unfold flag
  have hi := i.isLt
  exact congrArg (fun z : Fin 2048 => (maskOf m c (ix2 (bt t) z)).setWidth 32)
    (Fin.ext (by show t.val % 8 * 256 + i.val = (t.val % 8 * 256 + i.val) % 2048; omega))

/-- The sum the kernel takes of a block's mask. -/
theorem total_apply (X0 : Vec Ideal S1x256x1 .i32) :
    extractAt ![0, 0, 0] (k0_pay1 (k0_pay26 (F := Ideal) X0)) inpos_S1x1x1_p0_0_0 = ∑ i : Fin 256, X0 (ix3 ⟨0, by decide⟩ i ⟨0, by decide⟩) := by
  unfold k0_pay1 k0_pay26
  pointwise
  refine (Finset.sum_eq_fold Finset.univ fun q : Fin 256 × Fin 1 => X0 (ix3 0 q.1 q.2)).symm.trans ?_
  rw [Fintype.sum_prod_type]
  exact Finset.sum_congr rfl fun i _ => Fin.sum_univ_one _

/-- The count before a point is that of the batch's elements before its block. -/
theorem countAt_eq (c : Dev nD) : ∀ n (hn : n < 64), countAt m c n = tally (maskOf m c) (bt (pt n)) (n % 8 * 256)
  | 0, _ => rfl
  | n + 1, hn => by
    have ep : ∀ k, k < 64 → (pt k).val = k := fun k hk => Nat.mod_eq_of_lt hk
    by_cases h : (n + 1) % 8 = 0
    · rw [countAt_first m c h, h]
      exact (tally_zero _ _).symm
    · have ih := countAt_eq c n (by omega)
      have eb : bt (pt (n + 1)) = bt (pt n) := Fin.ext (by show (pt (n + 1)).val / 8 = (pt n).val / 8; rw [ep _ hn, ep _ (by omega)]; omega)
      rw [countAt_next m c h, eb]
      unfold nextOf
      rw [total_apply, ih, show (n + 1) % 8 * 256 = n % 8 * 256 + 256 by omega]
      unfold tally
      rw [Finset.sum_range_add, ← Fin.sum_univ_eq_sum_range (fun i => flag (maskOf m c) (bt (pt n)) (n % 8 * 256 + i)) 256]
      refine congrArg (fun z => _ + z) (Finset.sum_congr rfl fun i _ => ?_)
      rw [iblk0_flag, ep _ (by omega)]

end Cert.Proof
end
-- ==== Proof.KernelOut.lean ====
/- The block a point writes, element by element: the one-hot product picks the averaged row its count names. -/
module

public import proofs.«01_k».proof.Proof.KernelCount

@[expose] public section

noncomputable section

namespace Cert.Proof

open Cert.KernelIdeal Cert.KernelIdeal.Gen
open Idealize.ShloMosaic Idealize.ShloMosaic.TcCoe Idealize.ShloMosaic.Tactic
open Idealize.SL Idealize.SL.Sem

/-- The window's first row for a count: the multiple of sixteen below it, kept inside the rows. -/
theorem base_word : ∀ s : Fin 2049, base (BitVec.ofNat 32 s.val) = min 736 ((s.val - 1) / 16 * 16) := by
  decide +kernel

/-- One where a row's place in the window is the column, else zero. -/
def hot (x : IVec S256x1 32) : FVec Ideal S256x288 .bf16 :=
  truncf .bf16 (sitofp .f32 (extui 32 (cmpi .eq (broadcastTo S256x288 x broadcasts_S256x1_S256x288) (iota .tc S256x288 32 [1] iota_S256x288_d1_w32)) natLt_1_32)) bitsLt_bf16_f32

/-- The one-hot matrix at an element. -/
theorem hot_apply (x : IVec S256x1 32) (i : Fin 256) (q : Fin 288) :
    hot x (ix2 i q) = if x (ix2 i ⟨0, by decide⟩) = BitVec.ofNat 32 q.val then (1 : EReal) else 0 := by
  unfold hot
  pointwise
  by_cases h : x (ix2 i 0) = BitVec.ofNat 32 q.val
  · rw [show IntOp.cmpi .eq (x (ix2 i 0)) (BitVec.ofNat 32 q.val) = 1#1 from (WordCmp.ofBool_eq_one_iff _).2 (beq_iff_eq.2 h), if_pos h]
    show (((BitVec.setWidth 32 1#1).toInt : ℝ) : EReal) = 1
    rw [show (BitVec.setWidth 32 1#1).toInt = 1 by decide, Int.cast_one, EReal.coe_one]
  · rw [show IntOp.cmpi .eq (x (ix2 i 0)) (BitVec.ofNat 32 q.val) = 0#1 from congrArg BitVec.ofBool (beq_eq_false_iff_ne.2 h), if_neg h]
    show (((BitVec.setWidth 32 0#1).toInt : ℝ) : EReal) = 0
    rw [show (BitVec.setWidth 32 0#1).toInt = 0 by decide, Int.cast_zero, EReal.coe_zero]

/-- The stored block as one product with the one-hot matrix of the places. -/
theorem pay29_eq (w : BitVec 32) (v : IVec S256x1 32) (M : FVec Ideal S288x1024 .bf16) :
    k0_pay29 (F := Ideal) w v k0_pay28 M = shapeCast S1x256x1024 (matmul dot_S256x288_S288x1024_S256x1024_1_0_0_1_n_n none
      (hot (fun j => IntOp.subi (IntOp.minsi 1023#32 (IntOp.maxsi 0#32 (IntOp.subi (v j) 1#32))) (k0_mult2 w))) M (constant S256x1024 .f32 0x00000000#32))
      shapeCasts_S256x1024_S1x256x1024 := rfl

/-- A product with a matrix whose row is one at column `o` and zero elsewhere gives row `o`. -/
theorem product_apply (L : FVec Ideal S256x288 .bf16) (M : FVec Ideal S288x1024 .bf16) (i : Fin 256) (k : Fin 1024) (o : Fin 288)
    (hL : ∀ q, L (ix2 i q) = if q = o then (1 : EReal) else 0) :
    matmul dot_S256x288_S288x1024_S256x1024_1_0_0_1_n_n none L M (constant S256x1024 .f32 0x00000000#32) (ix2 i k) = M (ix2 o k) := by
  refine (Ideal.matmul_constant_zero_apply _ none L M _).trans ?_
  have el : ∀ q : dot_S256x288_S288x1024_S256x1024_1_0_0_1_n_n.contr.Idx, dot_S256x288_S288x1024_S256x1024_1_0_0_1_n_n.lhsIdx (ix2 i k) q = ix2 i (q ⟨0, Nat.one_pos⟩) := fun q => by
    funext a; match a with | ⟨0, _⟩ => rfl | ⟨1, _⟩ => rfl
  have er : ∀ q : dot_S256x288_S288x1024_S256x1024_1_0_0_1_n_n.contr.Idx, dot_S256x288_S288x1024_S256x1024_1_0_0_1_n_n.rhsIdx (ix2 i k) q = ix2 (q ⟨0, Nat.one_pos⟩) k := fun q => by
    funext a; match a with | ⟨0, _⟩ => rfl | ⟨1, _⟩ => rfl
  refine (Finset.sum_eq_single (show dot_S256x288_S288x1024_S256x1024_1_0_0_1_n_n.contr.Idx from fun a => match a with | ⟨0, _⟩ => o) (fun q _ hq => ?_) (fun h => absurd (Finset.mem_univ _) h)).trans ?_
  · rw [(congrArg L (el q)).trans ((hL _).trans (if_neg fun e => hq (funext fun a => by match a with | ⟨0, _⟩ => exact e)))]
    exact zero_mul _
  · rw [(congrArg L (el _)).trans ((hL o).trans (if_pos rfl))]
    exact (one_mul _).trans (congrArg M (er _))

/-- The stored block at an element: the row of the window its place names. -/
theorem pay29_apply (w : BitVec 32) (v : IVec S256x1 32) (M : FVec Ideal S288x1024 .bf16) (i : Fin 256) (k : Fin 1024) (o : Fin 288)
    (ho : IntOp.subi (IntOp.minsi 1023#32 (IntOp.maxsi 0#32 (IntOp.subi (v (ix2 i ⟨0, by decide⟩)) 1#32))) (k0_mult2 w) = BitVec.ofNat 32 o.val) :
    k0_pay29 (F := Ideal) w v k0_pay28 M (ix3 ⟨0, by decide⟩ i k) = M (ix2 o k) := by
  rw [pay29_eq]
  have e := product_apply (hot (fun j => IntOp.subi (IntOp.minsi 1023#32 (IntOp.maxsi 0#32 (IntOp.subi (v j) 1#32))) (k0_mult2 w))) M i k o fun q => by
    rw [hot_apply, ho]
    have h0 := o.isLt
    have h1 := q.isLt
    refine if_congr ⟨fun h => Fin.ext ?_, fun h => by rw [h]⟩ rfl rfl
    have := congrArg BitVec.toNat h
    simp only [BitVec.toNat_ofNat] at this
    omega
  rw [← e]
  generalize matmul (F := Ideal) dot_S256x288_S288x1024_S256x1024_1_0_0_1_n_n none _ M (constant S256x1024 .f32 0x00000000#32) = P
  pointwise

variable (m : (ℓ : Loc nD τ sig) → Buf (Elt Ideal) ℓ)

/-- The block a point writes: each row is the averaged row its count of boundaries names, whatever the buffer `M` holds. -/
theorem out_apply (c : Dev nD) (t : Fin cfg0.N) (M : Vec Ideal S1024x1024 .bf16) (i : Fin 256) (k : Fin 1024) :
    outOf (iblk m c 0 t) M (countAt m c t.val) (ix3 ⟨0, by decide⟩ i k)
      = M (ix2 ⟨place (maskOf m c) (bt t) (t.val % 8 * 256 + i.val), place_lt _ _ _⟩ k) := by
  have ht := pt_lt t
  have hi := i.isLt
  have hw : countAt m c t.val = tally (maskOf m c) (bt t) (t.val % 8 * 256) := by rw [countAt_eq m c _ ht, pt_val]
  have hv : k0_pay27 (F := Ideal) (countAt m c t.val) (iblk m c 0 t) (ix2 i ⟨0, by decide⟩) = tally (maskOf m c) (bt t) (t.val % 8 * 256 + i.val + 1) := by
    rw [counts_apply _ _ (fun n => tally (maskOf m c) (bt t) (t.val % 8 * 256 + n)) (fun i => by
      rw [iblk0_flag]
      show _ = tally _ _ (t.val % 8 * 256 + i.val + 1) - _
      rw [tally_succ]
      exact (add_sub_cancel_left _ _).symm), hw]
    exact add_sub_cancel _ _
  have hg := tally_grow (maskOf m c) (bt t) (t.val % 8 * 256) (i.val + 1) (by omega)
  have hs := tally_le (maskOf m c) (bt t) (t.val % 8 * 256) (by omega)
  have hb : base (countAt m c t.val) = min 736 (((tally (maskOf m c) (bt t) (t.val % 8 * 256)).toNat - 1) / 16 * 16) :=
    (congrArg base (hw.trans (by simp))).trans (base_word ⟨(tally (maskOf m c) (bt t) (t.val % 8 * 256)).toNat, by omega⟩)
  have hp : place (maskOf m c) (bt t) (t.val % 8 * 256 + i.val) = min 1023 ((tally (maskOf m c) (bt t) (t.val % 8 * 256 + (i.val + 1))).toNat - 1) := rfl
  have h1 : base (countAt m c t.val) ≤ place (maskOf m c) (bt t) (t.val % 8 * 256 + i.val) := by rw [hp, hb]; omega
  have h2 : place (maskOf m c) (bt t) (t.val % 8 * 256 + i.val) - base (countAt m c t.val) < 288 := by rw [hp, hb]; omega
  refine (pay29_apply _ _ _ i k ⟨_, h2⟩ ?_).trans ?_
  · rw [hv, place_word _ _ _ (by omega), show k0_mult2 (countAt m c t.val) = BitVec.ofNat 32 (base (countAt m c t.val)) from by simp [base]]
    exact BitVec.ofNat_sub_ofNat_of_le _ _ (by have := base_le (countAt m c t.val); omega) h1
  · refine congrArg M (funext fun a => Fin.ext ?_)
    match a with
    | ⟨0, _⟩ => show base (countAt m c t.val) + 1 * (place (maskOf m c) (bt t) (t.val % 8 * 256 + i.val) - base (countAt m c t.val)) = place (maskOf m c) (bt t) (t.val % 8 * 256 + i.val); omega
    | ⟨1, _⟩ => show 0 + 1 * k.val = k.val; omega

end Cert.Proof
end
-- ==== Proof.Value.lean ====
/- The equation: the kernel's result array and the reference's are the same function of the arguments. -/
module

public import proofs.«01_k».proof.Proof.Frames
public import proofs.«01_k».proof.Proof.RefTail
public import proofs.«01_k».proof.Proof.KernelOut

@[expose] public section

noncomputable section

namespace Cert.Proof

open Cert.KernelIdeal Cert.KernelIdeal.Gen
open Idealize.ShloMosaic Idealize.ShloMosaic.TcCoe Idealize.ShloMosaic.Tactic
open Idealize.SL Idealize.SL.Sem

/-- The result both programs compute: each place takes the averaged row its count of boundaries names. -/
def result (x0 : FVec Ideal S8x1024x1024 .f32) (x1 : IVec S8x2048 1) (x2 : FVec Ideal S8x2048 .f32) (x3 : IVec S8x1024 32) :
    FVec Ideal S8x2048x1024 .f32 :=
  fun y => (upTo (feed x0 x2 x3 (y 0) (y 2)) (place x1 (y 0) (y 1).val)).2

/-- The kernel's averaged rows are the second parts of the running combination of the reference's pairs. -/
theorem rows_eq (x0 : FVec Ideal S8x1024x1024 .f32) (x2 : FVec Ideal S8x2048 .f32) (x3 : IVec S8x1024 32) (b : Fin 8)
    (X1 : FVec Ideal S1x1x2048 .f32) (X2 : IVec S1x1x1024 32) (X3 : FVec Ideal S1x1024x1024 .f32)
    (h1 : ∀ j, X1 (ix3 ⟨0, by decide⟩ ⟨0, by decide⟩ j) = x2 (ix2 b j)) (h2 : ∀ j, X2 (ix3 ⟨0, by decide⟩ ⟨0, by decide⟩ j) = x3 (ix2 b j))
    (h3 : ∀ j k, X3 (ix3 ⟨0, by decide⟩ j k) = x0 (ix3 b j k)) (k : Fin 1024) :
    ∀ r, rows X1 X2 X3 r (ix2 ⟨0, by decide⟩ k) = (upTo (feed x0 x2 x3 b k) r).2
  | 0 => h3 _ k
  | r + 1 => by
    have ih := rows_eq x0 x2 x3 b X1 X2 X3 h1 h2 h3 k r
    have hp : pRow X1 X2 (r + 1) = prob x2 x3 b (r + 1) := by
      unfold pRow prob
      rw [h1]
      exact congrArg (fun z : BitVec 32 => clipP (F := Ideal) (x2 (ix2 b ⟨z.toNat % 2048, Nat.mod_lt _ (by decide)⟩))) (h2 _)
    have hh : hRow X3 (r + 1) (ix2 ⟨0, by decide⟩ k) = x0 (ix3 b ⟨(r + 1) % 1024, Nat.mod_lt _ (by decide)⟩ k) := h3 _ k
    have hf : feed x0 x2 x3 b k (r + 1) = (Scalar.subf (F := Ideal) (φ := .f32) (Scalar.ofBits .f32 0x3F800000#32) (prob x2 x3 b (r + 1)),
      (prob x2 x3 b (r + 1) : EReal) * x0 (ix3 b ⟨(r + 1) % 1024, Nat.mod_lt _ (by decide)⟩ k)) := if_neg (Nat.succ_ne_zero r)
    show (pRow X1 X2 (r + 1) : EReal) * hRow X3 (r + 1) (ix2 ⟨0, _⟩ k)
      + (Scalar.subf (F := Ideal) (φ := .f32) (Scalar.ofBits .f32 0x3F800000#32) (pRow X1 X2 (r + 1)) : EReal) * rows X1 X2 X3 r (ix2 ⟨0, _⟩ k)
      = (feed x0 x2 x3 b k (r + 1)).2 + (feed x0 x2 x3 b k (r + 1)).1 * (upTo (feed x0 x2 x3 b k) r).2
    rw [hf, ih, hp, hh]

variable (m : (ℓ : Loc nD τ sig) → Buf (Elt Ideal) ℓ)

/-- The rows held at a point, as the running combination of its batch's pairs. -/
theorem rowsAt_apply (c : Dev nD) (t : Fin cfg0.N) (r k : Fin 1024) :
    rowsAt m c t.val (ix2 r k)
      = (upTo (feed (m ((c.tc : Thread nD τ).loc main_arg0)) (m ((c.tc : Thread nD τ).loc main_arg2)) (m ((c.tc : Thread nD τ).loc main_arg3)) (bt t) k) r.val).2 := by
  have ht := pt_lt t
  have e : bt (pt (8 * (t.val / 8))) = bt t := Fin.ext (by show 8 * (t.val / 8) % 64 / 8 = t.val / 8; omega)
  refine rows_eq _ _ _ (bt t) _ _ _ (fun j => ?_) (fun j => ?_) (fun j k => ?_) k r.val
  · rw [iblk1_apply, e]; rfl
  · rw [iblk2_apply, e]; rfl
  · rw [iblk3_apply, e]; rfl

theorem after_four (c : Dev nD) (t : Fin cfg0.N) : (dats m 0 c).after 4 t = outOf (iblk m c 0 t) (rowsAt m c t.val) (countAt m c t.val) := by
  dsimp only [dats]

/-- The kernel's result array after the run. -/
theorem final (c : Dev nD) : (dats m 0 c).arrAt 4 cfg0.N
    = result (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t _ y => ?_
  blk_simp
  rw [after_four]
  have h := (index_all t).2.2.2.2
  have hb : (bt t).val = t.val / 8 := rfl
  have h1 : (y 1).val < 256 := (y 1).isLt
  have he : (win0_4.blk t).view.emb y = ix3 (bt t) ⟨t.val % 8 * 256 + (y 1).val, by omega⟩ (y 2) := by
    blk_ext [h, hb]
  have hy : y = ix3 ⟨0, by decide⟩ (y 1) (y 2) := (eq_ix3 y).trans (congrArg (fun z : Fin 1 => ix3 z (y 1) (y 2)) (Subsingleton.elim _ _))
  exact (congrArg (outOf (iblk m c 0 t) (rowsAt m c t.val) (countAt m c t.val)) hy).trans ((out_apply m c t _ (y 1) (y 2)).trans
    ((rowsAt_apply m c t _ (y 2)).trans (congrArg (result _ _ _ _) he).symm))

/-- Kernel and reference end with the same array. -/
theorem equation : Cert.algebraic_KernelIdeal_ReferenceIdeal := fun m g m' g' hpre hag =>
  ⟨fun c => result (m ((c.tc : Thread nD τ).loc main_arg0)) (m ((c.tc : Thread nD τ).loc main_arg1)) (m ((c.tc : Thread nD τ).loc main_arg2)) (m ((c.tc : Thread nD τ).loc main_arg3)),
    (θ_run defs _ _).mono (fun _ hr c =>
      ⟨((hr.1 c).1 4).trans (final m c),
        ((hr.1 c).1 3).trans (((dats m 0 c).arrAt_in 3 rfl _).trans ((A_eq m c 3).trans (V_main_arg0 m c))),
        ((hr.1 c).2 main_arg1 (Pipeline.mem_restRefs_of main_arg1 (by decide) (by decide))).trans (V_main_arg1 m c),
        ((hr.1 c).2 main_arg2 (Pipeline.mem_restRefs_of main_arg2 (by decide) (by decide))).trans (V_main_arg2 m c),
        ((hr.1 c).2 main_arg3 (Pipeline.mem_restRefs_of main_arg3 (by decide) (by decide))).trans (V_main_arg3 m c)⟩)
      (run_main m g (words_lt m hpre)),
    (θ_run Cert.ReferenceIdeal.defs _ _).mono (fun r h c => by
      refine ⟨((h c).1.trans (Cert.ReferenceIdeal.Read.val_main_v262_eq _)).trans ?_, (h c).2⟩
      obtain ⟨e0, e1, e2, e3⟩ := hag c
      refine Eq.trans (b := Cert.ReferenceIdeal.Read.val_main_v262 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))) rfl ?_
      rw [e0, e1, e2, e3]
      refine funext fun y => ?_
      rw [eq_ix3 y]
      exact reference_eq _ _ _ _ (fun y => word_lt (hpre c) y) (y 0) (y 1) (y 2))
      (Cert.ReferenceIdeal.Value.run (F := Ideal) m' g')⟩

end Cert.Proof
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Value
public import Idealize.ShloMosaic.Adequacy
public import Idealize.ShloMosaic.Init

@[expose] public section

noncomputable section

namespace Cert.Proof

/-- All five claims: the frames of the three programs, that the ideal kernel reads the printed one, and the equation. -/
theorem claim : Cert.Claim :=
  ⟨Cert.Kernel.Gen.facts, Cert.KernelIdeal.Gen.facts, Cert.ReferenceIdeal.Gen.facts, pre_facts, frame_p, frame_pi, frame_ri, frame_ri_pre, trivial, equation⟩

end Cert.Proof
end
